-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "start" .f32 0x7149F2CA#32 ⊤
  ∧ IdealRules.named_const.Statement Cert.KernelIdeal.κ "twelfth" .f32 0x3DAAAAAB#32 ((12⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20x4 : Shape := ⟨2, ![20, 4]⟩
abbrev S12x4 : Shape := ⟨2, ![12, 4]⟩
abbrev S80 : Shape := ⟨1, ![80]⟩
abbrev S48 : Shape := ⟨1, ![48]⟩
abbrev S16 : Shape := ⟨1, ![16]⟩
abbrev S144 : Shape := ⟨1, ![144]⟩
abbrev S64 : Shape := ⟨1, ![64]⟩
abbrev S32 : Shape := ⟨1, ![32]⟩
abbrev S_ : Shape := ⟨0, ![]⟩
abbrev S1 : Shape := ⟨1, ![1]⟩

abbrev nBuf : Table → Nat
  | .hbm => 7
  | .local .scVector .vmem => 4
  | _ => 0

abbrev bufTy : (tb : Table) → Fin (nBuf tb) → BufTy
  | .hbm, ⟨0, _⟩ => ⟨S20x4, .f32⟩
  | .hbm, ⟨1, _⟩ => ⟨S12x4, .f32⟩
  | .hbm, ⟨2, _⟩ => ⟨S80, .f32⟩
  | .hbm, ⟨3, _⟩ => ⟨S48, .f32⟩
  | .hbm, ⟨4, _⟩ => ⟨S16, .f32⟩
  | .hbm, ⟨5, _⟩ => ⟨S1, .f32⟩
  | .hbm, ⟨6, _⟩ => ⟨S_, .f32⟩
  | .local .scVector .vmem, ⟨0, _⟩ => ⟨S144, .f32⟩
  | .local .scVector .vmem, ⟨1, _⟩ => ⟨S64, .f32⟩
  | .local .scVector .vmem, ⟨2, _⟩ => ⟨S32, .f32⟩
  | .local .scVector .vmem, ⟨3, _⟩ => ⟨S16, .f32⟩
  | _, _ => ⟨S20x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_chk1 (i : grid0.Coords) (v13 : IVec S16 32) : Prop :=
  (∀ (k0_h1 : k0_cond1 i = 1#1), ∀ a x, ((![v13] : Fin 1 → IVec S16 32) a x).toNat < S64.size a)
theorem k0_idx1_inb : ∀ (i : grid0.Coords) (v13 : IVec S16 32) (k0_hw1 : k0_chk1 i v13), ∀ (k0_h1 : k0_cond1 i = 1#1), ∀ a x, ((![v13] : Fin 1 → IVec S16 32) a x).toNat < S64.size a := fun i v13 k0_hw1 k0_h1 => k0_hw1 k0_h1

def k0_chk2 (i : grid0.Coords) (v16 : IVec S16 32) : Prop :=
  (∀ (k0_h1 : k0_cond1 i = 1#1), ∀ a x, ((![v16] : Fin 1 → IVec S16 32) a x).toNat < S64.size a)
theorem k0_idx2_inb : ∀ (i : grid0.Coords) (v16 : IVec S16 32) (k0_hw2 : k0_chk2 i v16), ∀ (k0_h1 : k0_cond1 i = 1#1), ∀ a x, ((![v16] : Fin 1 → IVec S16 32) a x).toNat < S64.size a := fun i v16 k0_hw2 k0_h1 => k0_hw2 k0_h1

def k0_chk3 (i : grid0.Coords) (v19 : IVec S16 32) : Prop :=
  (∀ (k0_h1 : k0_cond1 i = 1#1), ∀ a x, ((![v19] : Fin 1 → IVec S16 32) a x).toNat < S64.size a)
theorem k0_idx3_inb : ∀ (i : grid0.Coords) (v19 : IVec S16 32) (k0_hw3 : k0_chk3 i v19), ∀ (k0_h1 : k0_cond1 i = 1#1), ∀ a x, ((![v19] : Fin 1 → IVec S16 32) a x).toNat < S64.size a := fun i v19 k0_hw3 k0_h1 => k0_hw3 k0_h1

def k0_chk4 (i : grid0.Coords) (v25 : IVec S16 32) : Prop :=
  (∀ (k0_h1 : k0_cond1 i = 1#1), ∀ a x, ((![v25] : Fin 1 → IVec S16 32) a x).toNat < S144.size a)
theorem k0_idx4_inb : ∀ (i : grid0.Coords) (v25 : IVec S16 32) (k0_hw4 : k0_chk4 i v25), ∀ (k0_h1 : k0_cond1 i = 1#1), ∀ a x, ((![v25] : Fin 1 → IVec S16 32) a x).toNat < S144.size a := fun i v25 k0_hw4 k0_h1 => k0_hw4 k0_h1

def k0_chk5 (i : grid0.Coords) (v27 : IVec S16 32) : Prop :=
  (∀ (k0_h1 : k0_cond1 i = 1#1), ∀ a x, ((![v27] : Fin 1 → IVec S16 32) a x).toNat < S144.size a)
theorem k0_idx5_inb : ∀ (i : grid0.Coords) (v27 : IVec S16 32) (k0_hw5 : k0_chk5 i v27), ∀ (k0_h1 : k0_cond1 i = 1#1), ∀ a x, ((![v27] : Fin 1 → IVec S16 32) a x).toNat < S144.size a := fun i v27 k0_hw5 k0_h1 => k0_hw5 k0_h1

def k0_chk6 (i : grid0.Coords) (v29 : IVec S16 32) : Prop :=
  (∀ (k0_h1 : k0_cond1 i = 1#1), ∀ a x, ((![v29] : Fin 1 → IVec S16 32) a x).toNat < S144.size a)
theorem k0_idx6_inb : ∀ (i : grid0.Coords) (v29 : IVec S16 32) (k0_hw6 : k0_chk6 i v29), ∀ (k0_h1 : k0_cond1 i = 1#1), ∀ a x, ((![v29] : Fin 1 → IVec S16 32) a x).toNat < S144.size a := fun i v29 k0_hw6 k0_h1 => k0_hw6 k0_h1

def k0_chk7 (i : grid0.Coords) (v48 : IVec S16 32) : Prop :=
  (∀ (k0_h1 : k0_cond1 i = 1#1), ∀ a x, ((![v48] : Fin 1 → IVec S16 32) a x).toNat < S144.size a)
theorem k0_idx7_inb : ∀ (i : grid0.Coords) (v48 : IVec S16 32) (k0_hw7 : k0_chk7 i v48), ∀ (k0_h1 : k0_cond1 i = 1#1), ∀ a x, ((![v48] : Fin 1 → IVec S16 32) a x).toNat < S144.size a := fun i v48 k0_hw7 k0_h1 => k0_hw7 k0_h1

def k0_chk8 (i : grid0.Coords) (v50 : IVec S16 32) : Prop :=
  (∀ (k0_h1 : k0_cond1 i = 1#1), ∀ a x, ((![v50] : Fin 1 → IVec S16 32) a x).toNat < S144.size a)
theorem k0_idx8_inb : ∀ (i : grid0.Coords) (v50 : IVec S16 32) (k0_hw8 : k0_chk8 i v50), ∀ (k0_h1 : k0_cond1 i = 1#1), ∀ a x, ((![v50] : Fin 1 → IVec S16 32) a x).toNat < S144.size a := fun i v50 k0_hw8 k0_h1 => k0_hw8 k0_h1

def k0_chk9 (i : grid0.Coords) (v52 : IVec S16 32) : Prop :=
  (∀ (k0_h1 : k0_cond1 i = 1#1), ∀ a x, ((![v52] : Fin 1 → IVec S16 32) a x).toNat < S144.size a)
theorem k0_idx9_inb : ∀ (i : grid0.Coords) (v52 : IVec S16 32) (k0_hw9 : k0_chk9 i v52), ∀ (k0_h1 : k0_cond1 i = 1#1), ∀ a x, ((![v52] : Fin 1 → IVec S16 32) a x).toNat < S144.size a := fun i v52 k0_hw9 k0_h1 => k0_hw9 k0_h1

def k0_chk10 (i : grid0.Coords) (v71 : IVec S16 32) : Prop :=
  (∀ (k0_h1 : k0_cond1 i = 1#1), ∀ a x, ((![v71] : Fin 1 → IVec S16 32) a x).toNat < S144.size a)
theorem k0_idx10_inb : ∀ (i : grid0.Coords) (v71 : IVec S16 32) (k0_hw10 : k0_chk10 i v71), ∀ (k0_h1 : k0_cond1 i = 1#1), ∀ a x, ((![v71] : Fin 1 → IVec S16 32) a x).toNat < S144.size a := fun i v71 k0_hw10 k0_h1 => k0_hw10 k0_h1

def k0_chk11 (i : grid0.Coords) (v73 : IVec S16 32) : Prop :=
  (∀ (k0_h1 : k0_cond1 i = 1#1), ∀ a x, ((![v73] : Fin 1 → IVec S16 32) a x).toNat < S144.size a)
theorem k0_idx11_inb : ∀ (i : grid0.Coords) (v73 : IVec S16 32) (k0_hw11 : k0_chk11 i v73), ∀ (k0_h1 : k0_cond1 i = 1#1), ∀ a x, ((![v73] : Fin 1 → IVec S16 32) a x).toNat < S144.size a := fun i v73 k0_hw11 k0_h1 => k0_hw11 k0_h1

def k0_chk12 (i : grid0.Coords) (v75 : IVec S16 32) : Prop :=
  (∀ (k0_h1 : k0_cond1 i = 1#1), ∀ a x, ((![v75] : Fin 1 → IVec S16 32) a x).toNat < S144.size a)
theorem k0_idx12_inb : ∀ (i : grid0.Coords) (v75 : IVec S16 32) (k0_hw12 : k0_chk12 i v75), ∀ (k0_h1 : k0_cond1 i = 1#1), ∀ a x, ((![v75] : Fin 1 → IVec S16 32) a x).toNat < S144.size a := fun i v75 k0_hw12 k0_h1 => k0_hw12 k0_h1

def k0_chk13 (i : grid0.Coords) (v94 : IVec S16 32) : Prop :=
  (∀ (k0_h1 : k0_cond1 i = 1#1), ∀ a x, ((![v94] : Fin 1 → IVec S16 32) a x).toNat < S144.size a)
theorem k0_idx13_inb : ∀ (i : grid0.Coords) (v94 : IVec S16 32) (k0_hw13 : k0_chk13 i v94), ∀ (k0_h1 : k0_cond1 i = 1#1), ∀ a x, ((![v94] : Fin 1 → IVec S16 32) a x).toNat < S144.size a := fun i v94 k0_hw13 k0_h1 => k0_hw13 k0_h1

def k0_chk14 (i : grid0.Coords) (v96 : IVec S16 32) : Prop :=
  (∀ (k0_h1 : k0_cond1 i = 1#1), ∀ a x, ((![v96] : Fin 1 → IVec S16 32) a x).toNat < S144.size a)
theorem k0_idx14_inb : ∀ (i : grid0.Coords) (v96 : IVec S16 32) (k0_hw14 : k0_chk14 i v96), ∀ (k0_h1 : k0_cond1 i = 1#1), ∀ a x, ((![v96] : Fin 1 → IVec S16 32) a x).toNat < S144.size a := fun i v96 k0_hw14 k0_h1 => k0_hw14 k0_h1

def k0_chk15 (i : grid0.Coords) (v98 : IVec S16 32) : Prop :=
  (∀ (k0_h1 : k0_cond1 i = 1#1), ∀ a x, ((![v98] : Fin 1 → IVec S16 32) a x).toNat < S144.size a)
theorem k0_idx15_inb : ∀ (i : grid0.Coords) (v98 : IVec S16 32) (k0_hw15 : k0_chk15 i v98), ∀ (k0_h1 : k0_cond1 i = 1#1), ∀ a x, ((![v98] : Fin 1 → IVec S16 32) a x).toNat < S144.size a := fun i v98 k0_hw15 k0_h1 => k0_hw15 k0_h1

def k0_chk16 (i : grid0.Coords) (v117 : IVec S16 32) : Prop :=
  (∀ (k0_h1 : k0_cond1 i = 1#1), ∀ a x, ((![v117] : Fin 1 → IVec S16 32) a x).toNat < S144.size a)
theorem k0_idx16_inb : ∀ (i : grid0.Coords) (v117 : IVec S16 32) (k0_hw16 : k0_chk16 i v117), ∀ (k0_h1 : k0_cond1 i = 1#1), ∀ a x, ((![v117] : Fin 1 → IVec S16 32) a x).toNat < S144.size a := fun i v117 k0_hw16 k0_h1 => k0_hw16 k0_h1

def k0_chk17 (i : grid0.Coords) (v119 : IVec S16 32) : Prop :=
  (∀ (k0_h1 : k0_cond1 i = 1#1), ∀ a x, ((![v119] : Fin 1 → IVec S16 32) a x).toNat < S144.size a)
theorem k0_idx17_inb : ∀ (i : grid0.Coords) (v119 : IVec S16 32) (k0_hw17 : k0_chk17 i v119), ∀ (k0_h1 : k0_cond1 i = 1#1), ∀ a x, ((![v119] : Fin 1 → IVec S16 32) a x).toNat < S144.size a := fun i v119 k0_hw17 k0_h1 => k0_hw17 k0_h1

def k0_chk18 (i : grid0.Coords) (v121 : IVec S16 32) : Prop :=
  (∀ (k0_h1 : k0_cond1 i = 1#1), ∀ a x, ((![v121] : Fin 1 → IVec S16 32) a x).toNat < S144.size a)
theorem k0_idx18_inb : ∀ (i : grid0.Coords) (v121 : IVec S16 32) (k0_hw18 : k0_chk18 i v121), ∀ (k0_h1 : k0_cond1 i = 1#1), ∀ a x, ((![v121] : Fin 1 → IVec S16 32) a x).toNat < S144.size a := fun i v121 k0_hw18 k0_h1 => k0_hw18 k0_h1

def k0_chk19 (i : grid0.Coords) (v140 : IVec S16 32) : Prop :=
  (∀ (k0_h1 : k0_cond1 i = 1#1), ∀ a x, ((![v140] : Fin 1 → IVec S16 32) a x).toNat < S144.size a)
theorem k0_idx19_inb : ∀ (i : grid0.Coords) (v140 : IVec S16 32) (k0_hw19 : k0_chk19 i v140), ∀ (k0_h1 : k0_cond1 i = 1#1), ∀ a x, ((![v140] : Fin 1 → IVec S16 32) a x).toNat < S144.size a := fun i v140 k0_hw19 k0_h1 => k0_hw19 k0_h1

def k0_chk20 (i : grid0.Coords) (v142 : IVec S16 32) : Prop :=
  (∀ (k0_h1 : k0_cond1 i = 1#1), ∀ a x, ((![v142] : Fin 1 → IVec S16 32) a x).toNat < S144.size a)
theorem k0_idx20_inb : ∀ (i : grid0.Coords) (v142 : IVec S16 32) (k0_hw20 : k0_chk20 i v142), ∀ (k0_h1 : k0_cond1 i = 1#1), ∀ a x, ((![v142] : Fin 1 → IVec S16 32) a x).toNat < S144.size a := fun i v142 k0_hw20 k0_h1 => k0_hw20 k0_h1

def k0_chk21 (i : grid0.Coords) (v144 : IVec S16 32) : Prop :=
  (∀ (k0_h1 : k0_cond1 i = 1#1), ∀ a x, ((![v144] : Fin 1 → IVec S16 32) a x).toNat < S144.size a)
theorem k0_idx21_inb : ∀ (i : grid0.Coords) (v144 : IVec S16 32) (k0_hw21 : k0_chk21 i v144), ∀ (k0_h1 : k0_cond1 i = 1#1), ∀ a x, ((![v144] : Fin 1 → IVec S16 32) a x).toNat < S144.size a := fun i v144 k0_hw21 k0_h1 => k0_hw21 k0_h1

def k0_chk22 (i : grid0.Coords) (v163 : IVec S16 32) : Prop :=
  (∀ (k0_h1 : k0_cond1 i = 1#1), ∀ a x, ((![v163] : Fin 1 → IVec S16 32) a x).toNat < S144.size a)
theorem k0_idx22_inb : ∀ (i : grid0.Coords) (v163 : IVec S16 32) (k0_hw22 : k0_chk22 i v163), ∀ (k0_h1 : k0_cond1 i = 1#1), ∀ a x, ((![v163] : Fin 1 → IVec S16 32) a x).toNat < S144.size a := fun i v163 k0_hw22 k0_h1 => k0_hw22 k0_h1

def k0_chk23 (i : grid0.Coords) (v165 : IVec S16 32) : Prop :=
  (∀ (k0_h1 : k0_cond1 i = 1#1), ∀ a x, ((![v165] : Fin 1 → IVec S16 32) a x).toNat < S144.size a)
theorem k0_idx23_inb : ∀ (i : grid0.Coords) (v165 : IVec S16 32) (k0_hw23 : k0_chk23 i v165), ∀ (k0_h1 : k0_cond1 i = 1#1), ∀ a x, ((![v165] : Fin 1 → IVec S16 32) a x).toNat < S144.size a := fun i v165 k0_hw23 k0_h1 => k0_hw23 k0_h1

def k0_chk24 (i : grid0.Coords) (v167 : IVec S16 32) : Prop :=
  (∀ (k0_h1 : k0_cond1 i = 1#1), ∀ a x, ((![v167] : Fin 1 → IVec S16 32) a x).toNat < S144.size a)
theorem k0_idx24_inb : ∀ (i : grid0.Coords) (v167 : IVec S16 32) (k0_hw24 : k0_chk24 i v167), ∀ (k0_h1 : k0_cond1 i = 1#1), ∀ a x, ((![v167] : Fin 1 → IVec S16 32) a x).toNat < S144.size a := fun i v167 k0_hw24 k0_h1 => k0_hw24 k0_h1

def k0_chk25 (i : grid0.Coords) (v186 : IVec S16 32) : Prop :=
  (∀ (k0_h1 : k0_cond1 i = 1#1), ∀ a x, ((![v186] : Fin 1 → IVec S16 32) a x).toNat < S144.size a)
theorem k0_idx25_inb : ∀ (i : grid0.Coords) (v186 : IVec S16 32) (k0_hw25 : k0_chk25 i v186), ∀ (k0_h1 : k0_cond1 i = 1#1), ∀ a x, ((![v186] : Fin 1 → IVec S16 32) a x).toNat < S144.size a := fun i v186 k0_hw25 k0_h1 => k0_hw25 k0_h1

def k0_chk26 (i : grid0.Coords) (v188 : IVec S16 32) : Prop :=
  (∀ (k0_h1 : k0_cond1 i = 1#1), ∀ a x, ((![v188] : Fin 1 → IVec S16 32) a x).toNat < S144.size a)
theorem k0_idx26_inb : ∀ (i : grid0.Coords) (v188 : IVec S16 32) (k0_hw26 : k0_chk26 i v188), ∀ (k0_h1 : k0_cond1 i = 1#1), ∀ a x, ((![v188] : Fin 1 → IVec S16 32) a x).toNat < S144.size a := fun i v188 k0_hw26 k0_h1 => k0_hw26 k0_h1

def k0_chk27 (i : grid0.Coords) (v190 : IVec S16 32) : Prop :=
  (∀ (k0_h1 : k0_cond1 i = 1#1), ∀ a x, ((![v190] : Fin 1 → IVec S16 32) a x).toNat < S144.size a)
theorem k0_idx27_inb : ∀ (i : grid0.Coords) (v190 : IVec S16 32) (k0_hw27 : k0_chk27 i v190), ∀ (k0_h1 : k0_cond1 i = 1#1), ∀ a x, ((![v190] : Fin 1 → IVec S16 32) a x).toNat < S144.size a := fun i v190 k0_hw27 k0_h1 => k0_hw27 k0_h1

def k0_chk28 (i : grid0.Coords) (v209 : IVec S16 32) : Prop :=
  (∀ (k0_h1 : k0_cond1 i = 1#1), ∀ a x, ((![v209] : Fin 1 → IVec S16 32) a x).toNat < S144.size a)
theorem k0_idx28_inb : ∀ (i : grid0.Coords) (v209 : IVec S16 32) (k0_hw28 : k0_chk28 i v209), ∀ (k0_h1 : k0_cond1 i = 1#1), ∀ a x, ((![v209] : Fin 1 → IVec S16 32) a x).toNat < S144.size a := fun i v209 k0_hw28 k0_h1 => k0_hw28 k0_h1

def k0_chk29 (i : grid0.Coords) (v211 : IVec S16 32) : Prop :=
  (∀ (k0_h1 : k0_cond1 i = 1#1), ∀ a x, ((![v211] : Fin 1 → IVec S16 32) a x).toNat < S144.size a)
theorem k0_idx29_inb : ∀ (i : grid0.Coords) (v211 : IVec S16 32) (k0_hw29 : k0_chk29 i v211), ∀ (k0_h1 : k0_cond1 i = 1#1), ∀ a x, ((![v211] : Fin 1 → IVec S16 32) a x).toNat < S144.size a := fun i v211 k0_hw29 k0_h1 => k0_hw29 k0_h1

def k0_chk30 (i : grid0.Coords) (v213 : IVec S16 32) : Prop :=
  (∀ (k0_h1 : k0_cond1 i = 1#1), ∀ a x, ((![v213] : Fin 1 → IVec S16 32) a x).toNat < S144.size a)
theorem k0_idx30_inb : ∀ (i : grid0.Coords) (v213 : IVec S16 32) (k0_hw30 : k0_chk30 i v213), ∀ (k0_h1 : k0_cond1 i = 1#1), ∀ a x, ((![v213] : Fin 1 → IVec S16 32) a x).toNat < S144.size a := fun i v213 k0_hw30 k0_h1 => k0_hw30 k0_h1

def k0_chk31 (i : grid0.Coords) (v232 : IVec S16 32) : Prop :=
  (∀ (k0_h1 : k0_cond1 i = 1#1), ∀ a x, ((![v232] : Fin 1 → IVec S16 32) a x).toNat < S144.size a)
theorem k0_idx31_inb : ∀ (i : grid0.Coords) (v232 : IVec S16 32) (k0_hw31 : k0_chk31 i v232), ∀ (k0_h1 : k0_cond1 i = 1#1), ∀ a x, ((![v232] : Fin 1 → IVec S16 32) a x).toNat < S144.size a := fun i v232 k0_hw31 k0_h1 => k0_hw31 k0_h1

def k0_chk32 (i : grid0.Coords) (v234 : IVec S16 32) : Prop :=
  (∀ (k0_h1 : k0_cond1 i = 1#1), ∀ a x, ((![v234] : Fin 1 → IVec S16 32) a x).toNat < S144.size a)
theorem k0_idx32_inb : ∀ (i : grid0.Coords) (v234 : IVec S16 32) (k0_hw32 : k0_chk32 i v234), ∀ (k0_h1 : k0_cond1 i = 1#1), ∀ a x, ((![v234] : Fin 1 → IVec S16 32) a x).toNat < S144.size a := fun i v234 k0_hw32 k0_h1 => k0_hw32 k0_h1

def k0_chk33 (i : grid0.Coords) (v236 : IVec S16 32) : Prop :=
  (∀ (k0_h1 : k0_cond1 i = 1#1), ∀ a x, ((![v236] : Fin 1 → IVec S16 32) a x).toNat < S144.size a)
theorem k0_idx33_inb : ∀ (i : grid0.Coords) (v236 : IVec S16 32) (k0_hw33 : k0_chk33 i v236), ∀ (k0_h1 : k0_cond1 i = 1#1), ∀ a x, ((![v236] : Fin 1 → IVec S16 32) a x).toNat < S144.size a := fun i v236 k0_hw33 k0_h1 => k0_hw33 k0_h1

def k0_chk34 (i : grid0.Coords) (v255 : IVec S16 32) : Prop :=
  (∀ (k0_h1 : k0_cond1 i = 1#1), ∀ a x, ((![v255] : Fin 1 → IVec S16 32) a x).toNat < S144.size a)
theorem k0_idx34_inb : ∀ (i : grid0.Coords) (v255 : IVec S16 32) (k0_hw34 : k0_chk34 i v255), ∀ (k0_h1 : k0_cond1 i = 1#1), ∀ a x, ((![v255] : Fin 1 → IVec S16 32) a x).toNat < S144.size a := fun i v255 k0_hw34 k0_h1 => k0_hw34 k0_h1

def k0_chk35 (i : grid0.Coords) (v257 : IVec S16 32) : Prop :=
  (∀ (k0_h1 : k0_cond1 i = 1#1), ∀ a x, ((![v257] : Fin 1 → IVec S16 32) a x).toNat < S144.size a)
theorem k0_idx35_inb : ∀ (i : grid0.Coords) (v257 : IVec S16 32) (k0_hw35 : k0_chk35 i v257), ∀ (k0_h1 : k0_cond1 i = 1#1), ∀ a x, ((![v257] : Fin 1 → IVec S16 32) a x).toNat < S144.size a := fun i v257 k0_hw35 k0_h1 => k0_hw35 k0_h1

def k0_chk36 (i : grid0.Coords) (v259 : IVec S16 32) : Prop :=
  (∀ (k0_h1 : k0_cond1 i = 1#1), ∀ a x, ((![v259] : Fin 1 → IVec S16 32) a x).toNat < S144.size a)
theorem k0_idx36_inb : ∀ (i : grid0.Coords) (v259 : IVec S16 32) (k0_hw36 : k0_chk36 i v259), ∀ (k0_h1 : k0_cond1 i = 1#1), ∀ a x, ((![v259] : Fin 1 → IVec S16 32) a x).toNat < S144.size a := fun i v259 k0_hw36 k0_h1 => k0_hw36 k0_h1

def k0_chk37 (i : grid0.Coords) (v278 : IVec S16 32) : Prop :=
  (∀ (k0_h1 : k0_cond1 i = 1#1), ∀ a x, ((![v278] : Fin 1 → IVec S16 32) a x).toNat < S144.size a)
theorem k0_idx37_inb : ∀ (i : grid0.Coords) (v278 : IVec S16 32) (k0_hw37 : k0_chk37 i v278), ∀ (k0_h1 : k0_cond1 i = 1#1), ∀ a x, ((![v278] : Fin 1 → IVec S16 32) a x).toNat < S144.size a := fun i v278 k0_hw37 k0_h1 => k0_hw37 k0_h1

def k0_chk38 (i : grid0.Coords) (v280 : IVec S16 32) : Prop :=
  (∀ (k0_h1 : k0_cond1 i = 1#1), ∀ a x, ((![v280] : Fin 1 → IVec S16 32) a x).toNat < S144.size a)
theorem k0_idx38_inb : ∀ (i : grid0.Coords) (v280 : IVec S16 32) (k0_hw38 : k0_chk38 i v280), ∀ (k0_h1 : k0_cond1 i = 1#1), ∀ a x, ((![v280] : Fin 1 → IVec S16 32) a x).toNat < S144.size a := fun i v280 k0_hw38 k0_h1 => k0_hw38 k0_h1

def k0_chk39 (i : grid0.Coords) (v282 : IVec S16 32) : Prop :=
  (∀ (k0_h1 : k0_cond1 i = 1#1), ∀ a x, ((![v282] : Fin 1 → IVec S16 32) a x).toNat < S144.size a)
theorem k0_idx39_inb : ∀ (i : grid0.Coords) (v282 : IVec S16 32) (k0_hw39 : k0_chk39 i v282), ∀ (k0_h1 : k0_cond1 i = 1#1), ∀ a x, ((![v282] : Fin 1 → IVec S16 32) a x).toNat < S144.size a := fun i v282 k0_hw39 k0_h1 => k0_hw39 k0_h1

def k0_chk40 (i : grid0.Coords) (v301 : IVec S16 32) : Prop :=
  (∀ (k0_h1 : k0_cond1 i = 1#1), ∀ a x, ((![v301] : Fin 1 → IVec S16 32) a x).toNat < S144.size a)
theorem k0_idx40_inb : ∀ (i : grid0.Coords) (v301 : IVec S16 32) (k0_hw40 : k0_chk40 i v301), ∀ (k0_h1 : k0_cond1 i = 1#1), ∀ a x, ((![v301] : Fin 1 → IVec S16 32) a x).toNat < S144.size a := fun i v301 k0_hw40 k0_h1 => k0_hw40 k0_h1

def k0_chk41 (i : grid0.Coords) (v303 : IVec S16 32) : Prop :=
  (∀ (k0_h1 : k0_cond1 i = 1#1), ∀ a x, ((![v303] : Fin 1 → IVec S16 32) a x).toNat < S144.size a)
theorem k0_idx41_inb : ∀ (i : grid0.Coords) (v303 : IVec S16 32) (k0_hw41 : k0_chk41 i v303), ∀ (k0_h1 : k0_cond1 i = 1#1), ∀ a x, ((![v303] : Fin 1 → IVec S16 32) a x).toNat < S144.size a := fun i v303 k0_hw41 k0_h1 => k0_hw41 k0_h1

def k0_chk42 (i : grid0.Coords) (v305 : IVec S16 32) : Prop :=
  (∀ (k0_h1 : k0_cond1 i = 1#1), ∀ a x, ((![v305] : Fin 1 → IVec S16 32) a x).toNat < S144.size a)
theorem k0_idx42_inb : ∀ (i : grid0.Coords) (v305 : IVec S16 32) (k0_hw42 : k0_chk42 i v305), ∀ (k0_h1 : k0_cond1 i = 1#1), ∀ a x, ((![v305] : Fin 1 → IVec S16 32) a x).toNat < S144.size a := fun i v305 k0_hw42 k0_h1 => k0_hw42 k0_h1

def k0_chk43 (i : grid0.Coords) (v324 : IVec S16 32) : Prop :=
  (∀ (k0_h1 : k0_cond1 i = 1#1), ∀ a x, ((![v324] : Fin 1 → IVec S16 32) a x).toNat < S144.size a)
theorem k0_idx43_inb : ∀ (i : grid0.Coords) (v324 : IVec S16 32) (k0_hw43 : k0_chk43 i v324), ∀ (k0_h1 : k0_cond1 i = 1#1), ∀ a x, ((![v324] : Fin 1 → IVec S16 32) a x).toNat < S144.size a := fun i v324 k0_hw43 k0_h1 => k0_hw43 k0_h1

def k0_chk44 (i : grid0.Coords) (v326 : IVec S16 32) : Prop :=
  (∀ (k0_h1 : k0_cond1 i = 1#1), ∀ a x, ((![v326] : Fin 1 → IVec S16 32) a x).toNat < S144.size a)
theorem k0_idx44_inb : ∀ (i : grid0.Coords) (v326 : IVec S16 32) (k0_hw44 : k0_chk44 i v326), ∀ (k0_h1 : k0_cond1 i = 1#1), ∀ a x, ((![v326] : Fin 1 → IVec S16 32) a x).toNat < S144.size a := fun i v326 k0_hw44 k0_h1 => k0_hw44 k0_h1

def k0_chk45 (i : grid0.Coords) (v328 : IVec S16 32) : Prop :=
  (∀ (k0_h1 : k0_cond1 i = 1#1), ∀ a x, ((![v328] : Fin 1 → IVec S16 32) a x).toNat < S144.size a)
theorem k0_idx45_inb : ∀ (i : grid0.Coords) (v328 : IVec S16 32) (k0_hw45 : k0_chk45 i v328), ∀ (k0_h1 : k0_cond1 i = 1#1), ∀ a x, ((![v328] : Fin 1 → IVec S16 32) a x).toNat < S144.size a := fun i v328 k0_hw45 k0_h1 => k0_hw45 k0_h1

def k0_chk46 (i : grid0.Coords) (v347 : IVec S16 32) : Prop :=
  (∀ (k0_h1 : k0_cond1 i = 1#1), ∀ a x, ((![v347] : Fin 1 → IVec S16 32) a x).toNat < S144.size a)
theorem k0_idx46_inb : ∀ (i : grid0.Coords) (v347 : IVec S16 32) (k0_hw46 : k0_chk46 i v347), ∀ (k0_h1 : k0_cond1 i = 1#1), ∀ a x, ((![v347] : Fin 1 → IVec S16 32) a x).toNat < S144.size a := fun i v347 k0_hw46 k0_h1 => k0_hw46 k0_h1

def k0_chk47 (i : grid0.Coords) (v349 : IVec S16 32) : Prop :=
  (∀ (k0_h1 : k0_cond1 i = 1#1), ∀ a x, ((![v349] : Fin 1 → IVec S16 32) a x).toNat < S144.size a)
theorem k0_idx47_inb : ∀ (i : grid0.Coords) (v349 : IVec S16 32) (k0_hw47 : k0_chk47 i v349), ∀ (k0_h1 : k0_cond1 i = 1#1), ∀ a x, ((![v349] : Fin 1 → IVec S16 32) a x).toNat < S144.size a := fun i v349 k0_hw47 k0_h1 => k0_hw47 k0_h1

def k0_chk48 (i : grid0.Coords) (v351 : IVec S16 32) : Prop :=
  (∀ (k0_h1 : k0_cond1 i = 1#1), ∀ a x, ((![v351] : Fin 1 → IVec S16 32) a x).toNat < S144.size a)
theorem k0_idx48_inb : ∀ (i : grid0.Coords) (v351 : IVec S16 32) (k0_hw48 : k0_chk48 i v351), ∀ (k0_h1 : k0_cond1 i = 1#1), ∀ a x, ((![v351] : Fin 1 → IVec S16 32) a x).toNat < S144.size a := fun i v351 k0_hw48 k0_h1 => k0_hw48 k0_h1

def k0_chk49 (i : grid0.Coords) (v370 : IVec S16 32) : Prop :=
  (∀ (k0_h1 : k0_cond1 i = 1#1), ∀ a x, ((![v370] : Fin 1 → IVec S16 32) a x).toNat < S144.size a)
theorem k0_idx49_inb : ∀ (i : grid0.Coords) (v370 : IVec S16 32) (k0_hw49 : k0_chk49 i v370), ∀ (k0_h1 : k0_cond1 i = 1#1), ∀ a x, ((![v370] : Fin 1 → IVec S16 32) a x).toNat < S144.size a := fun i v370 k0_hw49 k0_h1 => k0_hw49 k0_h1

def k0_chk50 (i : grid0.Coords) (v372 : IVec S16 32) : Prop :=
  (∀ (k0_h1 : k0_cond1 i = 1#1), ∀ a x, ((![v372] : Fin 1 → IVec S16 32) a x).toNat < S144.size a)
theorem k0_idx50_inb : ∀ (i : grid0.Coords) (v372 : IVec S16 32) (k0_hw50 : k0_chk50 i v372), ∀ (k0_h1 : k0_cond1 i = 1#1), ∀ a x, ((![v372] : Fin 1 → IVec S16 32) a x).toNat < S144.size a := fun i v372 k0_hw50 k0_h1 => k0_hw50 k0_h1

def k0_chk51 (i : grid0.Coords) (v374 : IVec S16 32) : Prop :=
  (∀ (k0_h1 : k0_cond1 i = 1#1), ∀ a x, ((![v374] : Fin 1 → IVec S16 32) a x).toNat < S144.size a)
theorem k0_idx51_inb : ∀ (i : grid0.Coords) (v374 : IVec S16 32) (k0_hw51 : k0_chk51 i v374), ∀ (k0_h1 : k0_cond1 i = 1#1), ∀ a x, ((![v374] : Fin 1 → IVec S16 32) a x).toNat < S144.size a := fun i v374 k0_hw51 k0_h1 => k0_hw51 k0_h1

def k0_chk52 (i : grid0.Coords) (v393 : IVec S16 32) : Prop :=
  (∀ (k0_h1 : k0_cond1 i = 1#1), ∀ a x, ((![v393] : Fin 1 → IVec S16 32) a x).toNat < S144.size a)
theorem k0_idx52_inb : ∀ (i : grid0.Coords) (v393 : IVec S16 32) (k0_hw52 : k0_chk52 i v393), ∀ (k0_h1 : k0_cond1 i = 1#1), ∀ a x, ((![v393] : Fin 1 → IVec S16 32) a x).toNat < S144.size a := fun i v393 k0_hw52 k0_h1 => k0_hw52 k0_h1

def k0_chk53 (i : grid0.Coords) (v395 : IVec S16 32) : Prop :=
  (∀ (k0_h1 : k0_cond1 i = 1#1), ∀ a x, ((![v395] : Fin 1 → IVec S16 32) a x).toNat < S144.size a)
theorem k0_idx53_inb : ∀ (i : grid0.Coords) (v395 : IVec S16 32) (k0_hw53 : k0_chk53 i v395), ∀ (k0_h1 : k0_cond1 i = 1#1), ∀ a x, ((![v395] : Fin 1 → IVec S16 32) a x).toNat < S144.size a := fun i v395 k0_hw53 k0_h1 => k0_hw53 k0_h1

def k0_chk54 (i : grid0.Coords) (v397 : IVec S16 32) : Prop :=
  (∀ (k0_h1 : k0_cond1 i = 1#1), ∀ a x, ((![v397] : Fin 1 → IVec S16 32) a x).toNat < S144.size a)
theorem k0_idx54_inb : ∀ (i : grid0.Coords) (v397 : IVec S16 32) (k0_hw54 : k0_chk54 i v397), ∀ (k0_h1 : k0_cond1 i = 1#1), ∀ a x, ((![v397] : Fin 1 → IVec S16 32) a x).toNat < S144.size a := fun i v397 k0_hw54 k0_h1 => k0_hw54 k0_h1

def k0_chk55 (i : grid0.Coords) (v416 : IVec S16 32) : Prop :=
  (∀ (k0_h1 : k0_cond1 i = 1#1), ∀ a x, ((![v416] : Fin 1 → IVec S16 32) a x).toNat < S144.size a)
theorem k0_idx55_inb : ∀ (i : grid0.Coords) (v416 : IVec S16 32) (k0_hw55 : k0_chk55 i v416), ∀ (k0_h1 : k0_cond1 i = 1#1), ∀ a x, ((![v416] : Fin 1 → IVec S16 32) a x).toNat < S144.size a := fun i v416 k0_hw55 k0_h1 => k0_hw55 k0_h1

def k0_chk56 (i : grid0.Coords) (v418 : IVec S16 32) : Prop :=
  (∀ (k0_h1 : k0_cond1 i = 1#1), ∀ a x, ((![v418] : Fin 1 → IVec S16 32) a x).toNat < S144.size a)
theorem k0_idx56_inb : ∀ (i : grid0.Coords) (v418 : IVec S16 32) (k0_hw56 : k0_chk56 i v418), ∀ (k0_h1 : k0_cond1 i = 1#1), ∀ a x, ((![v418] : Fin 1 → IVec S16 32) a x).toNat < S144.size a := fun i v418 k0_hw56 k0_h1 => k0_hw56 k0_h1

def k0_chk57 (i : grid0.Coords) (v420 : IVec S16 32) : Prop :=
  (∀ (k0_h1 : k0_cond1 i = 1#1), ∀ a x, ((![v420] : Fin 1 → IVec S16 32) a x).toNat < S144.size a)
theorem k0_idx57_inb : ∀ (i : grid0.Coords) (v420 : IVec S16 32) (k0_hw57 : k0_chk57 i v420), ∀ (k0_h1 : k0_cond1 i = 1#1), ∀ a x, ((![v420] : Fin 1 → IVec S16 32) a x).toNat < S144.size a := fun i v420 k0_hw57 k0_h1 => k0_hw57 k0_h1

def k0_chk58 (i : grid0.Coords) (v439 : IVec S16 32) : Prop :=
  (∀ (k0_h1 : k0_cond1 i = 1#1), ∀ a x, ((![v439] : Fin 1 → IVec S16 32) a x).toNat < S144.size a)
theorem k0_idx58_inb : ∀ (i : grid0.Coords) (v439 : IVec S16 32) (k0_hw58 : k0_chk58 i v439), ∀ (k0_h1 : k0_cond1 i = 1#1), ∀ a x, ((![v439] : Fin 1 → IVec S16 32) a x).toNat < S144.size a := fun i v439 k0_hw58 k0_h1 => k0_hw58 k0_h1

def k0_chk59 (i : grid0.Coords) (v441 : IVec S16 32) : Prop :=
  (∀ (k0_h1 : k0_cond1 i = 1#1), ∀ a x, ((![v441] : Fin 1 → IVec S16 32) a x).toNat < S144.size a)
theorem k0_idx59_inb : ∀ (i : grid0.Coords) (v441 : IVec S16 32) (k0_hw59 : k0_chk59 i v441), ∀ (k0_h1 : k0_cond1 i = 1#1), ∀ a x, ((![v441] : Fin 1 → IVec S16 32) a x).toNat < S144.size a := fun i v441 k0_hw59 k0_h1 => k0_hw59 k0_h1

def k0_chk60 (i : grid0.Coords) (v443 : IVec S16 32) : Prop :=
  (∀ (k0_h1 : k0_cond1 i = 1#1), ∀ a x, ((![v443] : Fin 1 → IVec S16 32) a x).toNat < S144.size a)
theorem k0_idx60_inb : ∀ (i : grid0.Coords) (v443 : IVec S16 32) (k0_hw60 : k0_chk60 i v443), ∀ (k0_h1 : k0_cond1 i = 1#1), ∀ a x, ((![v443] : Fin 1 → IVec S16 32) a x).toNat < S144.size a := fun i v443 k0_hw60 k0_h1 => k0_hw60 k0_h1

def k0_chk61 (i : grid0.Coords) (v462 : IVec S16 32) : Prop :=
  (∀ (k0_h1 : k0_cond1 i = 1#1), ∀ a x, ((![v462] : Fin 1 → IVec S16 32) a x).toNat < S144.size a)
theorem k0_idx61_inb : ∀ (i : grid0.Coords) (v462 : IVec S16 32) (k0_hw61 : k0_chk61 i v462), ∀ (k0_h1 : k0_cond1 i = 1#1), ∀ a x, ((![v462] : Fin 1 → IVec S16 32) a x).toNat < S144.size a := fun i v462 k0_hw61 k0_h1 => k0_hw61 k0_h1

def k0_chk62 (i : grid0.Coords) (v464 : IVec S16 32) : Prop :=
  (∀ (k0_h1 : k0_cond1 i = 1#1), ∀ a x, ((![v464] : Fin 1 → IVec S16 32) a x).toNat < S144.size a)
theorem k0_idx62_inb : ∀ (i : grid0.Coords) (v464 : IVec S16 32) (k0_hw62 : k0_chk62 i v464), ∀ (k0_h1 : k0_cond1 i = 1#1), ∀ a x, ((![v464] : Fin 1 → IVec S16 32) a x).toNat < S144.size a := fun i v464 k0_hw62 k0_h1 => k0_hw62 k0_h1

def k0_chk63 (i : grid0.Coords) (v466 : IVec S16 32) : Prop :=
  (∀ (k0_h1 : k0_cond1 i = 1#1), ∀ a x, ((![v466] : Fin 1 → IVec S16 32) a x).toNat < S144.size a)
theorem k0_idx63_inb : ∀ (i : grid0.Coords) (v466 : IVec S16 32) (k0_hw63 : k0_chk63 i v466), ∀ (k0_h1 : k0_cond1 i = 1#1), ∀ a x, ((![v466] : Fin 1 → IVec S16 32) a x).toNat < S144.size a := fun i v466 k0_hw63 k0_h1 => k0_hw63 k0_h1

def k0_chk64 (i : grid0.Coords) (v490 : IVec S16 32) : Prop :=
  (∀ (k0_h1 : k0_cond1 i = 1#1), ∀ a x, ((![v490] : Fin 1 → IVec S16 32) a x).toNat < S144.size a)
theorem k0_idx64_inb : ∀ (i : grid0.Coords) (v490 : IVec S16 32) (k0_hw64 : k0_chk64 i v490), ∀ (k0_h1 : k0_cond1 i = 1#1), ∀ a x, ((![v490] : Fin 1 → IVec S16 32) a x).toNat < S144.size a := fun i v490 k0_hw64 k0_h1 => k0_hw64 k0_h1

def k0_chk65 (i : grid0.Coords) (v493 : IVec S16 32) : Prop :=
  (∀ (k0_h1 : k0_cond1 i = 1#1), ∀ a x, ((![v493] : Fin 1 → IVec S16 32) a x).toNat < S144.size a)
theorem k0_idx65_inb : ∀ (i : grid0.Coords) (v493 : IVec S16 32) (k0_hw65 : k0_chk65 i v493), ∀ (k0_h1 : k0_cond1 i = 1#1), ∀ a x, ((![v493] : Fin 1 → IVec S16 32) a x).toNat < S144.size a := fun i v493 k0_hw65 k0_h1 => k0_hw65 k0_h1

def k0_chk66 (i : grid0.Coords) (v496 : IVec S16 32) : Prop :=
  (∀ (k0_h1 : k0_cond1 i = 1#1), ∀ a x, ((![v496] : Fin 1 → IVec S16 32) a x).toNat < S144.size a)
theorem k0_idx66_inb : ∀ (i : grid0.Coords) (v496 : IVec S16 32) (k0_hw66 : k0_chk66 i v496), ∀ (k0_h1 : k0_cond1 i = 1#1), ∀ a x, ((![v496] : Fin 1 → IVec S16 32) a x).toNat < S144.size a := fun i v496 k0_hw66 k0_h1 => k0_hw66 k0_h1

def k0_chk67 (i : grid0.Coords) (v499 : IVec S16 32) : Prop :=
  (∀ (k0_h1 : k0_cond1 i = 1#1), ∀ a x, ((![v499] : Fin 1 → IVec S16 32) a x).toNat < S144.size a)
theorem k0_idx67_inb : ∀ (i : grid0.Coords) (v499 : IVec S16 32) (k0_hw67 : k0_chk67 i v499), ∀ (k0_h1 : k0_cond1 i = 1#1), ∀ a x, ((![v499] : Fin 1 → IVec S16 32) a x).toNat < S144.size a := fun i v499 k0_hw67 k0_h1 => k0_hw67 k0_h1

def k0_chk68 (i : grid0.Coords) (v484 : IVec S16 32) : Prop :=
  (∀ (k0_h1 : k0_cond1 i = 1#1), ∀ a x, ((![v484] : Fin 1 → IVec S16 32) a x).toNat < S32.size a)
theorem k0_idx68_inb : ∀ (i : grid0.Coords) (v484 : IVec S16 32) (k0_hw68 : k0_chk68 i v484), ∀ (k0_h1 : k0_cond1 i = 1#1), ∀ a x, ((![v484] : Fin 1 → IVec S16 32) a x).toNat < S32.size a := fun i v484 k0_hw68 k0_h1 => k0_hw68 k0_h1

def k0_chk69 (i : grid0.Coords) (v573 : IVec S16 32) : Prop :=
  (∀ (k0_h1 : k0_cond1 i = 1#1), ∀ a x, ((![v573] : Fin 1 → IVec S16 32) a x).toNat < S144.size a)
theorem k0_idx69_inb : ∀ (i : grid0.Coords) (v573 : IVec S16 32) (k0_hw69 : k0_chk69 i v573), ∀ (k0_h1 : k0_cond1 i = 1#1), ∀ a x, ((![v573] : Fin 1 → IVec S16 32) a x).toNat < S144.size a := fun i v573 k0_hw69 k0_h1 => k0_hw69 k0_h1

def k0_chk70 (i : grid0.Coords) (v576 : IVec S16 32) : Prop :=
  (∀ (k0_h1 : k0_cond1 i = 1#1), ∀ a x, ((![v576] : Fin 1 → IVec S16 32) a x).toNat < S144.size a)
theorem k0_idx70_inb : ∀ (i : grid0.Coords) (v576 : IVec S16 32) (k0_hw70 : k0_chk70 i v576), ∀ (k0_h1 : k0_cond1 i = 1#1), ∀ a x, ((![v576] : Fin 1 → IVec S16 32) a x).toNat < S144.size a := fun i v576 k0_hw70 k0_h1 => k0_hw70 k0_h1

def k0_chk71 (i : grid0.Coords) (v579 : IVec S16 32) : Prop :=
  (∀ (k0_h1 : k0_cond1 i = 1#1), ∀ a x, ((![v579] : Fin 1 → IVec S16 32) a x).toNat < S144.size a)
theorem k0_idx71_inb : ∀ (i : grid0.Coords) (v579 : IVec S16 32) (k0_hw71 : k0_chk71 i v579), ∀ (k0_h1 : k0_cond1 i = 1#1), ∀ a x, ((![v579] : Fin 1 → IVec S16 32) a x).toNat < S144.size a := fun i v579 k0_hw71 k0_h1 => k0_hw71 k0_h1

def k0_chk72 (i : grid0.Coords) (v582 : IVec S16 32) : Prop :=
  (∀ (k0_h1 : k0_cond1 i = 1#1), ∀ a x, ((![v582] : Fin 1 → IVec S16 32) a x).toNat < S144.size a)
theorem k0_idx72_inb : ∀ (i : grid0.Coords) (v582 : IVec S16 32) (k0_hw72 : k0_chk72 i v582), ∀ (k0_h1 : k0_cond1 i = 1#1), ∀ a x, ((![v582] : Fin 1 → IVec S16 32) a x).toNat < S144.size a := fun i v582 k0_hw72 k0_h1 => k0_hw72 k0_h1
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "start" => some ⊤
  | "twelfth" => some ((12⁻¹ : ℝ) : EReal)
  | _ => none
-- ==== ReferenceIdeal.lean ====
abbrev S20x4 : Shape := ⟨2, ![20, 4]⟩
abbrev S12x4 : Shape := ⟨2, ![12, 4]⟩
abbrev S12x1 : Shape := ⟨2, ![12, 1]⟩
abbrev S12 : Shape := ⟨1, ![12]⟩
abbrev S20x1 : Shape := ⟨2, ![20, 1]⟩
abbrev S20 : Shape := ⟨1, ![20]⟩
abbrev S1x20 : Shape := ⟨2, ![1, 20]⟩
abbrev S12x20 : Shape := ⟨2, ![12, 20]⟩
abbrev S_ : Shape := ⟨0, ![]⟩
abbrev S1 : Shape := ⟨1, ![1]⟩
abbrev S1x1 : Shape := ⟨2, ![1, 1]⟩

abbrev nBuf : Space → Nat
  | .hbm => 174
  | .vmem => 0
  | .smem => 0
  | _ => 0

abbrev hbmTy0_0 (i : Nat) : BufTy := match i % 128 with
  | 0 => ⟨S20x4, .f32⟩
  | 1 => ⟨S12x4, .f32⟩
  | 2 => ⟨S12x1, .f32⟩
  | 3 => ⟨S12, .f32⟩
  | 4 => ⟨S12x1, .f32⟩
  | 5 => ⟨S20x1, .f32⟩
  | 6 => ⟨S20, .f32⟩
  | 7 => ⟨S1x20, .f32⟩
  | 8 => ⟨S12x20, .f32⟩
  | 9 => ⟨S12x20, .f32⟩
  | 10 => ⟨S12x20, .f32⟩
  | 11 => ⟨S12x1, .f32⟩
  | 12 => ⟨S12, .f32⟩
  | 13 => ⟨S12x1, .f32⟩
  | 14 => ⟨S20x1, .f32⟩
  | 15 => ⟨S20, .f32⟩
  | 16 => ⟨S1x20, .f32⟩
  | 17 => ⟨S12x20, .f32⟩
  | 18 => ⟨S12x20, .f32⟩
  | 19 => ⟨S12x20, .f32⟩
  | 20 => ⟨S12x20, .f32⟩
  | 21 => ⟨S12x20, .f32⟩
  | 22 => ⟨S12x20, .f32⟩
  | 23 => ⟨S12x20, .f32⟩
  | 24 => ⟨S12x1, .f32⟩
  | 25 => ⟨S12, .f32⟩
  | 26 => ⟨S12x1, .f32⟩
  | 27 => ⟨S20x1, .f32⟩
  | 28 => ⟨S20, .f32⟩
  | 29 => ⟨S1x20, .f32⟩
  | 30 => ⟨S12x20, .f32⟩
  | 31 => ⟨S12x20, .f32⟩
  | 32 => ⟨S12x20, .f32⟩
  | 33 => ⟨S12x20, .f32⟩
  | 34 => ⟨S_, .f32⟩
  | 35 => ⟨S12x20, .f32⟩
  | 36 => ⟨S12x20, .f32⟩
  | 37 => ⟨S_, .f32⟩
  | 38 => ⟨S12x20, .f32⟩
  | 39 => ⟨S12x20, .f32⟩
  | 40 => ⟨S12x20, .f32⟩
  | 41 => ⟨S12x20, .i32⟩
  | 42 => ⟨S_, .f32⟩
  | 43 => ⟨S_, .i32⟩
  | 44 => ⟨S12, .f32⟩
  | 45 => ⟨S12, .i32⟩
  | 46 => ⟨S_, .i32⟩
  | 47 => ⟨S12, .i32⟩
  | 48 => ⟨S12, .i1⟩
  | 49 => ⟨S_, .i32⟩
  | 50 => ⟨S12, .i32⟩
  | 51 => ⟨S12, .i32⟩
  | 52 => ⟨S12, .i32⟩
  | 53 => ⟨S12x1, .i32⟩
  | 54 => ⟨S1, .i32⟩
  | 55 => ⟨S_, .i32⟩
  | 56 => ⟨S12x1, .i32⟩
  | 57 => ⟨S12x1, .i1⟩
  | 58 => ⟨S1x1, .i32⟩
  | 59 => ⟨S12x1, .i32⟩
  | 60 => ⟨S12x1, .i1⟩
  | 61 => ⟨S12x1, .i1⟩
  | 62 => ⟨S_, .i1⟩
  | 63 => ⟨S12, .i1⟩
  | 64 => ⟨S12x4, .f32⟩
  | 65 => ⟨S12x4, .i1⟩
  | 66 => ⟨S_, .f32⟩
  | 67 => ⟨S12x4, .f32⟩
  | 68 => ⟨S12x4, .f32⟩
  | 69 => ⟨S12x1, .f32⟩
  | 70 => ⟨S12, .f32⟩
  | 71 => ⟨S12x1, .f32⟩
  | 72 => ⟨S12, .f32⟩
  | 73 => ⟨S12, .f32⟩
  | 74 => ⟨S12, .f32⟩
  | 75 => ⟨S12x1, .f32⟩
  | 76 => ⟨S12, .f32⟩
  | 77 => ⟨S12x1, .f32⟩
  | 78 => ⟨S12, .f32⟩
  | 79 => ⟨S12, .f32⟩
  | 80 => ⟨S12, .f32⟩
  | 81 => ⟨S12, .f32⟩
  | 82 => ⟨S12, .f32⟩
  | 83 => ⟨S12x1, .f32⟩
  | 84 => ⟨S12, .f32⟩
  | 85 => ⟨S12x1, .f32⟩
  | 86 => ⟨S12, .f32⟩
  | 87 => ⟨S12, .f32⟩
  | 88 => ⟨S12, .f32⟩
  | 89 => ⟨S12x1, .f32⟩
  | 90 => ⟨S12, .f32⟩
  | 91 => ⟨S_, .f32⟩
  | 92 => ⟨S12, .f32⟩
  | 93 => ⟨S12, .f32⟩
  | 94 => ⟨S12, .f32⟩
  | 95 => ⟨S_, .f32⟩
  | 96 => ⟨S12, .f32⟩
  | 97 => ⟨S12, .f32⟩
  | 98 => ⟨S_, .f32⟩
  | 99 => ⟨S12, .f32⟩
  | 100 => ⟨S12, .f32⟩
  | 101 => ⟨S_, .f32⟩
  | 102 => ⟨S12, .f32⟩
  | 103 => ⟨S12, .f32⟩
  | 104 => ⟨S12, .f32⟩
  | 105 => ⟨S_, .f32⟩
  | 106 => ⟨S12, .f32⟩
  | 107 => ⟨S12, .f32⟩
  | 108 => ⟨S12, .f32⟩
  | 109 => ⟨S_, .f32⟩
  | 110 => ⟨S12, .f32⟩
  | 111 => ⟨S12, .f32⟩
  | 112 => ⟨S_, .f32⟩
  | 113 => ⟨S12, .f32⟩
  | 114 => ⟨S12, .f32⟩
  | 115 => ⟨S12, .f32⟩
  | 116 => ⟨S12, .f32⟩
  | 117 => ⟨S_, .f32⟩
  | 118 => ⟨S_, .f32⟩
  | 119 => ⟨S_, .f32⟩
  | 120 => ⟨S20, .f32⟩
  | 121 => ⟨S_, .i32⟩
  | 122 => ⟨S12, .i32⟩
  | 123 => ⟨S12, .i1⟩
  | 124 => ⟨S_, .i32⟩
  | 125 => ⟨S12, .i32⟩
  | 126 => ⟨S12, .i32⟩
  | 127 => ⟨S12, .i32⟩
  | _ => ⟨S20x4, .f32⟩

abbrev hbmTy0_1 (i : Nat) : BufTy := match i % 128 with
  | 0 => ⟨S12x1, .i32⟩
  | 1 => ⟨S_, .f32⟩
  | 2 => ⟨S12, .f32⟩
  | 3 => ⟨S20, .f32⟩
  | 4 => ⟨S20x1, .f32⟩
  | 5 => ⟨S20, .f32⟩
  | 6 => ⟨S_, .f32⟩
  | 7 => ⟨S20, .f32⟩
  | 8 => ⟨S20, .f32⟩
  | 9 => ⟨S20, .f32⟩
  | 10 => ⟨S_, .f32⟩
  | 11 => ⟨S20, .f32⟩
  | 12 => ⟨S20, .f32⟩
  | 13 => ⟨S_, .f32⟩
  | 14 => ⟨S20, .f32⟩
  | 15 => ⟨S20, .f32⟩
  | 16 => ⟨S_, .f32⟩
  | 17 => ⟨S20, .f32⟩
  | 18 => ⟨S20, .f32⟩
  | 19 => ⟨S20, .f32⟩
  | 20 => ⟨S_, .f32⟩
  | 21 => ⟨S20, .f32⟩
  | 22 => ⟨S20, .f32⟩
  | 23 => ⟨S20, .f32⟩
  | 24 => ⟨S20x1, .f32⟩
  | 25 => ⟨S20, .f32⟩
  | 26 => ⟨S_, .f32⟩
  | 27 => ⟨S20, .f32⟩
  | 28 => ⟨S20, .f32⟩
  | 29 => ⟨S20, .f32⟩
  | 30 => ⟨S_, .f32⟩
  | 31 => ⟨S20, .f32⟩
  | 32 => ⟨S20, .f32⟩
  | 33 => ⟨S_, .f32⟩
  | 34 => ⟨S20, .f32⟩
  | 35 => ⟨S20, .i1⟩
  | 36 => ⟨S_, .f32⟩
  | 37 => ⟨S20, .f32⟩
  | 38 => ⟨S20, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | _ => ⟨S20x4, .f32⟩

abbrev hbmTy (i : Nat) : BufTy := match i / 128 with
  | 0 => hbmTy0_0 i
  | 1 => hbmTy0_1 i
  | _ => ⟨S20x4, .f32⟩

abbrev bufTy : (tb : Table) → Fin (tcTables nBuf tb) → BufTy
  | .hbm, ⟨i, _⟩ => hbmTy i
  | _, _ => ⟨S20x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_cst : Ref sig .tc := ⟨.hbm, 34, rfl⟩
abbrev main_v32 : Ref sig .tc := ⟨.hbm, 35, rfl⟩
abbrev main_v33 : Ref sig .tc := ⟨.hbm, 36, rfl⟩
abbrev main_cst_0 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_call0_v0 : Ref sig .tc := ⟨.hbm, 41, rfl⟩
abbrev main_call0_cst : Ref sig .tc := ⟨.hbm, 42, rfl⟩
abbrev main_call0_c : Ref sig .tc := ⟨.hbm, 43, rfl⟩
abbrev main_call0_v1_0 : Ref sig .tc := ⟨.hbm, 44, rfl⟩
abbrev main_v37 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_1 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_2 : Ref sig .tc := ⟨.hbm, 95, rfl⟩
abbrev main_v64 : Ref sig .tc := ⟨.hbm, 96, rfl⟩
abbrev main_v65 : Ref sig .tc := ⟨.hbm, 97, rfl⟩
abbrev main_cst_3 : Ref sig .tc := ⟨.hbm, 98, rfl⟩
abbrev main_v66 : Ref sig .tc := ⟨.hbm, 99, rfl⟩
abbrev main_v67 : Ref sig .tc := ⟨.hbm, 100, rfl⟩
abbrev main_cst_4 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_5 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_6 : Ref sig .tc := ⟨.hbm, 109, rfl⟩
abbrev main_v74 : Ref sig .tc := ⟨.hbm, 110, rfl⟩
abbrev main_v75 : Ref sig .tc := ⟨.hbm, 111, rfl⟩
abbrev main_cst_7 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_8 : Ref sig .tc := ⟨.hbm, 117, rfl⟩
abbrev main_v80 : Ref sig .tc := ⟨.hbm, 118, rfl⟩
abbrev main_cst_9 : Ref sig .tc := ⟨.hbm, 119, rfl⟩
abbrev main_v81 : Ref sig .tc := ⟨.hbm, 120, rfl⟩
abbrev main_c : Ref sig .tc := ⟨.hbm, 121, rfl⟩
abbrev main_v82 : Ref sig .tc := ⟨.hbm, 122, rfl⟩
abbrev main_v83 : Ref sig .tc := ⟨.hbm, 123, rfl⟩
abbrev main_c_10 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_11 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_12 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_13 : Ref sig .tc := ⟨.hbm, 138, rfl⟩
abbrev main_v95 : Ref sig .tc := ⟨.hbm, 139, rfl⟩
abbrev main_v96 : Ref sig .tc := ⟨.hbm, 140, rfl⟩
abbrev main_cst_14 : Ref sig .tc := ⟨.hbm, 141, rfl⟩
abbrev main_v97 : Ref sig .tc := ⟨.hbm, 142, rfl⟩
abbrev main_v98 : Ref sig .tc := ⟨.hbm, 143, rfl⟩
abbrev main_cst_15 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_16 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_17 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_18 : Ref sig .tc := ⟨.hbm, 158, rfl⟩
abbrev main_v110 : Ref sig .tc := ⟨.hbm, 159, rfl⟩
abbrev main_v111 : Ref sig .tc := ⟨.hbm, 160, rfl⟩
abbrev main_cst_19 : Ref sig .tc := ⟨.hbm, 161, rfl⟩
abbrev main_v112 : Ref sig .tc := ⟨.hbm, 162, rfl⟩
abbrev main_v113 : Ref sig .tc := ⟨.hbm, 163, rfl⟩
abbrev main_cst_20 : Ref sig .tc := ⟨.hbm, 164, rfl⟩
abbrev main_v114 : Ref sig .tc := ⟨.hbm, 165, rfl⟩
abbrev main_v115 : Ref sig .tc := ⟨.hbm, 166, rfl⟩
abbrev main_cst_21 : Ref sig .tc := ⟨.hbm, 167, rfl⟩
abbrev main_v116 : Ref sig .tc := ⟨.hbm, 168, rfl⟩
abbrev main_cst_22 : Ref sig .tc := ⟨.hbm, 169, rfl⟩
abbrev main_v117 : Ref sig .tc := ⟨.hbm, 170, rfl⟩
abbrev main_cst_23 : Ref sig .tc := ⟨.hbm, 171, rfl⟩
abbrev main_v118 : Ref sig .tc := ⟨.hbm, 172, rfl⟩
abbrev main_v119 : Ref sig .tc := ⟨.hbm, 173, rfl⟩

abbrev nD : Nat := 1
abbrev τ : Topo := Topo.v7x

variable {F : FTy → Type} [FloatOps F]
-- ==== Proof.Vals.lean ====
/-
  What the kernel's one working subcore computes, as values: the vector a gather reads, the cost of pairing a label
  with one prediction, the running minimum over the predictions with the index it was found at, and the sixteen-lane
  vectors built from it. Every definition is over any float instance, of the contents of the two input scratch buffers.
-/
module

public import proofs.«01_k».proof.Defs
public import Idealize.ShloMosaic.Lib.SparseCore.Ops
public import proofs.«01_k».proof.Proof.Gen.KernelIdeal
public import proofs.«01_k».proof.Proof.Gen.KernelIdeal.Skeleton

@[expose] public section

noncomputable section

namespace Cert.Proof.Kern

open Cert.KernelIdeal Cert.KernelIdeal.Gen
open Idealize.ShloMosaic

variable {F : FTy → Type}

/-! ## Gathers -/

/-- The lanes of `f` that an index vector names, an index past the end taken modulo the length. -/
def pick {n : ℕ} [NeZero n] (f : FVec F ⟨1, ![n]⟩ .f32) (v : IVec S16 32) : FVec F S16 .f32 :=
  fun x => f (fun a => ⟨(v x).toNat % n, by
    match a with
    | 0 => exact Nat.mod_lt _ (Nat.pos_of_ne_zero (NeZero.ne n))⟩)

/-- A gather whose indices are in bounds reads what `pick` names. -/
theorem loadIdx_eq_pick {n : ℕ} [NeZero n] (f : FVec F ⟨1, ![n]⟩ .f32) (v : IVec S16 32)
    (h : ∀ a x, ((![v] : Fin 1 → IVec S16 32) a x).toNat < (⟨1, ![n]⟩ : Shape).size a) :
    loadIdx (F := F) (e := .f32) f ![v] h = pick f v := by
  funext x
  refine congrArg f (funext fun a => Fin.ext ?_)
  match a with
  | 0 => exact (Nat.mod_eq_of_lt (h 0 x)).symm

/-- A constant index vector is in bounds of a buffer longer than the constant. -/
theorem inb_const (n : ℕ) (c : BitVec 32) (h : c.toNat < n) :
    ∀ a x, ((![broadcast S16 c] : Fin 1 → IVec S16 32) a x).toNat < (⟨1, ![n]⟩ : Shape).size a := by
  intro a x
  match a with
  | 0 => exact h

/-- An index vector bounded lane by lane is in bounds. -/
theorem inb_of_lt (n : ℕ) (v : IVec S16 32) (h : ∀ x, (v x).toNat < n) :
    ∀ a x, ((![v] : Fin 1 → IVec S16 32) a x).toNat < (⟨1, ![n]⟩ : Shape).size a := by
  intro a x
  match a with
  | 0 => exact h x

/-! ## The search -/

section Vals

variable [FloatOps F] [Named F]

/-- The lanes' numbers, and four times them. -/
def lanes : IVec S16 32 := iota .scVector S16 32 [0] iota_S16_d0_w32_scVector
def lanes4 : IVec S16 32 := muli (broadcast S16 4#32) lanes

/-- One half, on every lane. -/
def halves : FVec F S16 .f32 := broadcast S16 (Scalar.ofBits .f32 0x3F000000#32)

/-- The cost of pairing labels at `(x, y)` with radii `r` with predictions at `(u, v)` with radii `s`. -/
def costOf (x y r u v s : FVec F S16 .f32) : FVec F S16 .f32 :=
  addf (mulf halves (sqrt (addf (mulf (subf x u) (subf x u)) (mulf (subf y v) (subf y v))))) (mulf halves (absf (subf r s)))

variable (fp : FVec F S144 .f32) (fl : FVec F S64 .f32)

/-- Each lane's label: its two coordinates and its radius. -/
def labX : FVec F S16 .f32 := pick fl lanes4
def labY : FVec F S16 .f32 := pick fl (addi lanes4 (broadcast S16 1#32))
def labR : FVec F S16 .f32 := pick fl (addi lanes4 (broadcast S16 2#32))

/-- Word `k` of the predictions' scratch, on every lane. -/
def word (k : ℕ) : FVec F S16 .f32 := pick fp (broadcast S16 (BitVec.ofNat 32 k))

/-- Each lane's cost of being paired with prediction `n`. -/
def cost (n : ℕ) : FVec F S16 .f32 :=
  costOf (labX fl) (labY fl) (labR fl) (word fp (4 * n + 8)) (word fp (4 * n + 9)) (word fp (4 * n + 10))

/-- The least cost over the first `n` predictions, from the start constant. -/
def least : ℕ → FVec F S16 .f32
  | 0 => broadcast S16 (Named.named κ "start" 0x7149F2CA#32)
  | n + 1 => select (cmpf .olt (cost fp fl n) (least n)) (cost fp fl n) (least n)

/-- The index of the prediction that has it: the first, the comparison being strict. -/
def leastAt : ℕ → IVec S16 32
  | 0 => broadcast S16 0#32
  | n + 1 => select (cmpf .olt (cost fp fl n) (least fp fl n)) (broadcast S16 (BitVec.ofNat 32 n)) (leastAt n)

/-- Every lane's index is one of the predictions scanned. -/
theorem leastAt_lt (n : ℕ) (hn : n ≤ 19) (x : S16.Idx) : (leastAt fp fl (n + 1) x).toNat ≤ n := by
  induction n with
  | zero =>
    show (if _ then (BitVec.ofNat 32 0) else (0#32 : BitVec 32)).toNat ≤ 0
    split <;> simp
  | succ n ih =>
    show (if _ then (BitVec.ofNat 32 (n + 1)) else leastAt fp fl (n + 1) x).toNat ≤ n + 1
    split
    · rw [BitVec.toNat_ofNat]; exact Nat.mod_le _ _
    · exact (ih (by omega)).trans (Nat.le_succ n)

/-! ## The pairs' loss, the mask and the rest -/

/-- The index of each lane's paired prediction. -/
def pairAt : IVec S16 32 := leastAt fp fl 20

/-- The lanes that hold a label. -/
def valid : IVec S16 1 := cmpi .slt lanes (broadcast S16 12#32)

/-- The first word of each lane's paired prediction in the scratch. -/
def pairWord : IVec S16 32 := addi (muli (broadcast S16 4#32) (pairAt fp fl)) (broadcast S16 8#32)

/-- The sum over the pairs: each valid lane's cost of its pair less the logarithm of its confidence, the lanes added in
    order. -/
def pairSum : F .f32 :=
  k0_pay93 valid (pick fp (addi (pairWord fp fl) (broadcast S16 3#32)))
    (k0_pay90 (labX fl) (labY fl) (pick fp (pairWord fp fl)) (pick fp (addi (pairWord fp fl) (broadcast S16 1#32))))
    (k0_pay91 (labR fl) (pick fp (addi (pairWord fp fl) (broadcast S16 2#32)))) k0_pay92

/-- The mask of the paired predictions: thirty-two zeros, one at each valid lane's pair. -/
def mask : FVec F S32 .f32 :=
  storeIdx (F := F) (e := .f32) (broadcast S32 (Scalar.ofBits .f32 0x00000000#32)) ![pairAt fp fl] (k0_pay96 (F := F)) valid false
    (inb_of_lt 32 _ fun x => Nat.lt_of_le_of_lt (leastAt_lt fp fl 19 le_rfl x) (by decide))

/-- Sixteen of the mask's lanes from `o` on. -/
def maskFrom (o : ℕ) (ho : o ≤ 16) : FVec F S16 .f32 :=
  fun x => mask fp fl (fun a => ⟨o + (x a).val, by
    match a with
    | 0 => exact Nat.lt_of_lt_of_le (Nat.add_lt_add_left (x 0).isLt o) (Nat.add_le_add_right ho 16)⟩)

/-- The vector the kernel stores: the loss on every lane. -/
def outVec : FVec F S16 .f32 :=
  let r0 := pick fp (k0_pay97 lanes4)
  let r1 := pick fp (k0_pay98 lanes4)
  let p0 := pick fp (k0_pay99 lanes4)
  let p1 := pick fp (k0_pay100 lanes4)
  let m0 := maskFrom fp fl 0 (by decide)
  let m1 := maskFrom fp fl 16 le_rfl
  k0_pay1 (k0_pay104 lanes r1 m0 m1 (k0_pay101 r0 p0) (k0_pay102 p1) k0_pay103) (k0_pay105 (pairSum fp fl))
    (k0_pay106 lanes r1 m0 m1 (k0_pay101 r0 p0) (k0_pay102 p1) k0_pay103)
    (k0_pay107 lanes r1 m0 m1 (k0_pay101 r0 p0) (k0_pay102 p1) k0_pay103)

end Vals

end Cert.Proof.Kern

end
-- ==== Proof.Setup.lean ====
/-
  The kernel's program as the launch theorem sees it, the ghost state the proof keeps, the buffers' locations, and the
  working subcore's own scratch buffers and semaphores taken out of what the launch gives it.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Vals

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program -/

abbrev ΛP : Labels := Pipeline.Sig Λ₀ (Fin 0) fun p => (pcfgs (F := F) p).Adm
abbrev K : SparseCore.Cfg τ sig (ΛP (F := F)) 1 := sc (F := F)
/-- The call runs on sixteen subcores. -/
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the call's semaphores and memories. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch handshakes' rounds and the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The flattened predictions, the flattened labels, the kernel's output. -/
abbrev pLoc (d : Dev nD) : Loc nD τ sig := (SparseCore.T d).loc main_v0
abbrev lLoc (d : Dev nD) : Loc nD τ sig := (SparseCore.T d).loc main_v1
abbrev oLoc (d : Dev nD) : Loc nD τ sig := (SparseCore.T d).loc main_v2

local notation "pV" => (Memref.whole Cert.KernelIdeal.main_v0_scv : Memref Cert.KernelIdeal.sig Kind.scVector Space.hbm Cert.KernelIdeal.S80 EltTy.f32)
local notation "lV" => (Memref.whole Cert.KernelIdeal.main_v1_scv : Memref Cert.KernelIdeal.sig Kind.scVector Space.hbm Cert.KernelIdeal.S48 EltTy.f32)
local notation "oV" => (Memref.whole Cert.KernelIdeal.main_v2_scv : Memref Cert.KernelIdeal.sig Kind.scVector Space.hbm Cert.KernelIdeal.S16 EltTy.f32)
local notation "psV" => (Memref.whole Cert.KernelIdeal.cc0_scratch0 : Memref Cert.KernelIdeal.sig Kind.scVector Space.vmem Cert.KernelIdeal.S144 EltTy.f32)
local notation "lsV" => (Memref.whole Cert.KernelIdeal.cc0_scratch1 : Memref Cert.KernelIdeal.sig Kind.scVector Space.vmem Cert.KernelIdeal.S64 EltTy.f32)
local notation "msV" => (Memref.whole Cert.KernelIdeal.cc0_scratch2 : Memref Cert.KernelIdeal.sig Kind.scVector Space.vmem Cert.KernelIdeal.S32 EltTy.f32)
local notation "osV" => (Memref.whole Cert.KernelIdeal.cc0_scratch3 : Memref Cert.KernelIdeal.sig Kind.scVector Space.vmem Cert.KernelIdeal.S16 EltTy.f32)

section Tile

variable (d : Dev nD) (L : grid0.Coords)

abbrev cV (L : grid0.Coords) : Fin τ.nSC := (L 0).castLE hcore0
abbrev jV (L : grid0.Coords) : Fin τ.nSub := (L 1).castLE hsub0

/-- The subcore's four scratch buffers, each held whole at given contents. -/
abbrev psPts (f : FVec F S144 .f32) : sProp 𝕄 := (V d (cV L) (jV L)).loc cc0_scratch0 ↦{fullShare} f
abbrev lsPts (f : FVec F S64 .f32) : sProp 𝕄 := (V d (cV L) (jV L)).loc cc0_scratch1 ↦{fullShare} f
abbrev msPts (f : FVec F S32 .f32) : sProp 𝕄 := (V d (cV L) (jV L)).loc cc0_scratch2 ↦{fullShare} f
abbrev osPts (f : FVec F S16 .f32) : sProp 𝕄 := (V d (cV L) (jV L)).loc cc0_scratch3 ↦{fullShare} f

/-- The semaphores of the predictions' copy, of the labels' copy, of the copy out. -/
abbrev pCell (d : Dev nD) (c : Fin τ.nSC) (i : Fin τ.nSub) : GSem nD τ sig := (V d c i, .dma cc0_scratch4.sem)
abbrev lCell (d : Dev nD) (c : Fin τ.nSC) (i : Fin τ.nSub) : GSem nD τ sig := (V d c i, .dma cc0_scratch5.sem)
abbrev oCell (d : Dev nD) (c : Fin τ.nSC) (i : Fin τ.nSub) : GSem nD τ sig := (V d c i, .dma cc0_scoped0.sem)

/-- The three semaphores, at zero, among the subcore's own. -/
theorem ownSems0_V :
    (ownSems0 (V d (cV L) (jV L)) : sProp 𝕄)
      = iprop(semVal (pCell d (cV L) (jV L)) 0 ∗ semVal (lCell d (cV L) (jV L)) 0 ∗ semVal (oCell d (cV L) (jV L)) 0
          ∗ bigSep ((((ownCells (V d (cV L) (jV L))).erase (pCell d (cV L) (jV L))).erase (lCell d (cV L) (jV L))).erase (oCell d (cV L) (jV L))) fun g => semVal g 0) := by
  unfold SparseCore.Cfg.ownSems0
  rw [SparseCore.bigSep_erase' ((mem_ownCells (g := pCell d (cV L) (jV L))).mpr ⟨rfl, by
      show (SemLoc.dma cc0_scratch4.sem : SemLoc sig).isScoped .scVector = true; decide⟩),
    SparseCore.bigSep_erase' (Finset.mem_erase.mpr ⟨by simp [pCell, lCell]; decide, (mem_ownCells (g := lCell d (cV L) (jV L))).mpr ⟨rfl, by
      show (SemLoc.dma cc0_scratch5.sem : SemLoc sig).isScoped .scVector = true; decide⟩⟩),
    SparseCore.bigSep_erase' (Finset.mem_erase.mpr ⟨by simp [lCell, oCell]; decide, Finset.mem_erase.mpr ⟨by simp [pCell, oCell]; decide,
      (mem_ownCells (g := oCell d (cV L) (jV L))).mpr ⟨rfl, by show (SemLoc.dma cc0_scoped0.sem : SemLoc sig).isScoped .scVector = true; decide⟩⟩⟩)]

abbrev own (L : grid0.Coords) (b : Ref sig .scVector) : DevRef τ sig := (Proc.scVector (cV L) (jV L)).devRef b

/-- The four scratch buffers, at some contents, among the subcore's own. -/
theorem ownBufs_V :
    (ownBufs (V d (cV L) (jV L)) : sProp 𝕄)
      = iprop((∃ f, psPts d L f) ∗ (∃ f, lsPts d L f) ∗ (∃ f, msPts d L f) ∗ (∃ f, osPts d L f)
          ∗ bigSep (((((ownRefs (τ := τ) (.scVector (cV L) (jV L))).erase (own L cc0_scratch0)).erase (own L cc0_scratch1)).erase (own L cc0_scratch2)).erase (own L cc0_scratch3))
              fun b => iprop(∃ f, ((d, b) : Loc nD τ sig) ↦{fullShare} f)) := by
  have hm : ∀ b : Ref sig .scVector, (own L b).owner = .proc (Proc.scVector (cV L) (jV L)) → own L b ∈ ownRefs (τ := τ) (.scVector (cV L) (jV L)) :=
    fun b hb => SparseCore.Cfg.mem_ownRefs_of_owner (p := Proc.scVector (cV L) (jV L)) (b := own L b) hb
  have hne : ∀ {a b : Ref sig .scVector}, a ≠ b → own L a ≠ own L b := fun h e => h (Proc.devRef_injective _ e)
  unfold SparseCore.Cfg.ownBufs
  refine (SparseCore.bigSep_erase' (hm cc0_scratch0 rfl)).trans ?_
  rw [SparseCore.bigSep_erase' (Finset.mem_erase.mpr ⟨hne (show (cc0_scratch1 : Ref sig .scVector) ≠ cc0_scratch0 by decide), hm cc0_scratch1 rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide), hm cc0_scratch2 rfl⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
        Finset.mem_erase.mpr ⟨hne (show (cc0_scratch3 : Ref sig .scVector) ≠ cc0_scratch0 by decide), hm cc0_scratch3 rfl⟩⟩⟩)]
  rfl

end Tile

end Cert.Proof.Kern

end
-- ==== Proof.Windows.lean ====
/-
  The search, window by window: each stretch of the kernel's body gathers words of the predictions' scratch and folds
  them into the running minimum. Each lemma says what its stretch leaves, with the scratch unchanged.
-/
module

public import proofs.«01_k».proof.Proof.Setup

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "pV" => (Memref.whole Cert.KernelIdeal.main_v0_scv : Memref Cert.KernelIdeal.sig Kind.scVector Space.hbm Cert.KernelIdeal.S80 EltTy.f32)
local notation "lV" => (Memref.whole Cert.KernelIdeal.main_v1_scv : Memref Cert.KernelIdeal.sig Kind.scVector Space.hbm Cert.KernelIdeal.S48 EltTy.f32)
local notation "oV" => (Memref.whole Cert.KernelIdeal.main_v2_scv : Memref Cert.KernelIdeal.sig Kind.scVector Space.hbm Cert.KernelIdeal.S16 EltTy.f32)
local notation "psV" => (Memref.whole Cert.KernelIdeal.cc0_scratch0 : Memref Cert.KernelIdeal.sig Kind.scVector Space.vmem Cert.KernelIdeal.S144 EltTy.f32)
local notation "lsV" => (Memref.whole Cert.KernelIdeal.cc0_scratch1 : Memref Cert.KernelIdeal.sig Kind.scVector Space.vmem Cert.KernelIdeal.S64 EltTy.f32)
local notation "msV" => (Memref.whole Cert.KernelIdeal.cc0_scratch2 : Memref Cert.KernelIdeal.sig Kind.scVector Space.vmem Cert.KernelIdeal.S32 EltTy.f32)
local notation "osV" => (Memref.whole Cert.KernelIdeal.cc0_scratch3 : Memref Cert.KernelIdeal.sig Kind.scVector Space.vmem Cert.KernelIdeal.S16 EltTy.f32)
section Tile

variable (d : Dev nD) (L : grid0.Coords)

local notation "wpt" => wp frame (wpE (defs₀ (F := F)) 𝒱₀ (V d (cV L) (jV L)) none) Set.univ

/-! ## The gather and the guard before it -/

omit [FloatOps F] [Named F] in
/-- A postcondition at equal values. -/
theorem post_eq {β : Type} {Q : β → sProp 𝕄} {a b : β} (h : a = b) : Q a ⊢ Q b := Entails.of_eq (congrArg Q h)

/-- A guard whose condition holds is passed. -/
theorem guard {β : Type} {A : Prop} {dA : Decidable A} (hA : A) {k : PLift A → Prog (TpuEff nD τ sig (Elt F) Λ₀ (V d (cV L) (jV L)).2) β} {Q : β → sProp 𝕄} :
    wpt (k ⟨hA⟩) Q ⊢ wpt (Prog.lift (TpuEff.assume A dA) >>= k) Q := by
  rw [show (Prog.lift (TpuEff.assume A dA) >>= k : Prog (TpuEff nD τ sig (Elt F) Λ₀ (V d (cV L) (jV L)).2) β) = .op (.assume A dA) k from rfl, wp_assume_of _ _ _ _ hA]

/-- A gather from the predictions' scratch reads what its indices pick, and leaves the scratch. -/
theorem gatherP {β : Type} {v : IVec S16 32} {h : ∀ a x, ((![v] : Fin 1 → IVec S16 32) a x).toNat < S144.size a} {hl : (psV).view.Loads}
    {f : FVec F S144 .f32} {k : Vec F S16 .f32 → Prog (TpuEff nD τ sig (Elt F) Λ₀ (V d (cV L) (jV L)).2) β} {Q : β → sProp 𝕄} :
    psPts d L f ⊢ iprop((psPts d L f -∗ wpt (k (pick f v)) Q) -∗ wpt (SparseCore.vectorLoadIdx psV ![v] h hl >>= k) Q) := by
  have hr : ((psV).access (.whole (cc0_scratch0 : Ref sig .scVector).ty.shape)).read (Elt F) f = f := Memref.read_access_whole (Elt F) cc0_scratch0 f
  rw [← loadIdx_eq_pick f v h, ← congrArg (fun g => loadIdx (F := F) (e := .f32) g ![v] h) hr]
  exact SparseCore.wp_vectorLoadIdx (Q := Q) (defs := defs₀ (F := F)) 𝒱₀ (V d (cV L) (jV L)) none Set.univ (base := psV) (idxs := ![v]) (h := h) (hl := hl) (k := k)
    (S := Finset.univ) (q := fullShare) (f := f) (Finset.subset_univ _)

/-- The same behind the guard that its indices are in bounds. -/
theorem scanP {β : Type} {A : Prop} {dA : Decidable A} (hA : A) {v : IVec S16 32}
    {h : PLift A → ∀ a x, ((![v] : Fin 1 → IVec S16 32) a x).toNat < S144.size a} {hl : (psV).view.Loads}
    {f : FVec F S144 .f32} {k : PLift A → Vec F S16 .f32 → Prog (TpuEff nD τ sig (Elt F) Λ₀ (V d (cV L) (jV L)).2) β} {Q : β → sProp 𝕄} :
    psPts d L f ⊢ iprop((psPts d L f -∗ wpt (k ⟨hA⟩ (pick f v)) Q)
      -∗ wpt (Prog.lift (TpuEff.assume A dA) >>= fun w => SparseCore.vectorLoadIdx psV ![v] (h w) hl >>= k w) Q) := by
  rw [show (Prog.lift (TpuEff.assume A dA) >>= fun w => SparseCore.vectorLoadIdx psV ![v] (h w) hl >>= k w : Prog (TpuEff nD τ sig (Elt F) Λ₀ (V d (cV L) (jV L)).2) β)
    = .op (.assume A dA) fun w => SparseCore.vectorLoadIdx psV ![v] (h w) hl >>= k w from rfl, wp_assume_of _ _ _ _ hA]
  exact gatherP d L

/-- A gather from the labels' scratch reads what its indices pick, and leaves the scratch. -/
theorem gatherL {β : Type} {v : IVec S16 32} {h : ∀ a x, ((![v] : Fin 1 → IVec S16 32) a x).toNat < S64.size a} {hl : (lsV).view.Loads}
    {f : FVec F S64 .f32} {k : Vec F S16 .f32 → Prog (TpuEff nD τ sig (Elt F) Λ₀ (V d (cV L) (jV L)).2) β} {Q : β → sProp 𝕄} :
    lsPts d L f ⊢ iprop((lsPts d L f -∗ wpt (k (pick f v)) Q) -∗ wpt (SparseCore.vectorLoadIdx lsV ![v] h hl >>= k) Q) := by
  have hr : ((lsV).access (.whole (cc0_scratch1 : Ref sig .scVector).ty.shape)).read (Elt F) f = f := Memref.read_access_whole (Elt F) cc0_scratch1 f
  rw [← loadIdx_eq_pick f v h, ← congrArg (fun g => loadIdx (F := F) (e := .f32) g ![v] h) hr]
  exact SparseCore.wp_vectorLoadIdx (Q := Q) (defs := defs₀ (F := F)) 𝒱₀ (V d (cV L) (jV L)) none Set.univ (base := lsV) (idxs := ![v]) (h := h) (hl := hl) (k := k)
    (S := Finset.univ) (q := fullShare) (f := f) (Finset.subset_univ _)

/-- The same behind the guard that its indices are in bounds. -/
theorem scanL {β : Type} {A : Prop} {dA : Decidable A} (hA : A) {v : IVec S16 32}
    {h : PLift A → ∀ a x, ((![v] : Fin 1 → IVec S16 32) a x).toNat < S64.size a} {hl : (lsV).view.Loads}
    {f : FVec F S64 .f32} {k : PLift A → Vec F S16 .f32 → Prog (TpuEff nD τ sig (Elt F) Λ₀ (V d (cV L) (jV L)).2) β} {Q : β → sProp 𝕄} :
    lsPts d L f ⊢ iprop((lsPts d L f -∗ wpt (k ⟨hA⟩ (pick f v)) Q)
      -∗ wpt (Prog.lift (TpuEff.assume A dA) >>= fun w => SparseCore.vectorLoadIdx lsV ![v] (h w) hl >>= k w) Q) := by
  rw [show (Prog.lift (TpuEff.assume A dA) >>= fun w => SparseCore.vectorLoadIdx lsV ![v] (h w) hl >>= k w : Prog (TpuEff nD τ sig (Elt F) Λ₀ (V d (cV L) (jV L)).2) β)
    = .op (.assume A dA) fun w => SparseCore.vectorLoadIdx lsV ![v] (h w) hl >>= k w from rfl, wp_assume_of _ _ _ _ hA]
  exact gatherL d L

/-! ## What the windows pass on -/

variable (fp : FVec F S144 .f32) (fl : FVec F S64 .f32)

/-- The squared difference of the labels' first coordinates and prediction `n`'s; of the second coordinates. -/
def sqX (n : ℕ) : FVec F S16 .f32 := mulf (subf (labX fl) (word fp (4 * n + 8))) (subf (labX fl) (word fp (4 * n + 8)))
def sqY (n : ℕ) : FVec F S16 .f32 := mulf (subf (labY fl) (word fp (4 * n + 9))) (subf (labY fl) (word fp (4 * n + 9)))

/-- The distance of the coordinates, and the difference of the radii. -/
def dist (n : ℕ) : FVec F S16 .f32 := sqrt (addf (sqX fp fl n) (sqY fp fl n))
def gapR (n : ℕ) : FVec F S16 .f32 := absf (subf (labR fl) (word fp (4 * n + 10)))

/-- The first word of a pair is one of the twenty predictions' first words. -/
theorem pairWord_lt (k : ℕ) (hk : k ≤ 3) (x : S16.Idx) : (addi (pairWord fp fl) (broadcast S16 (BitVec.ofNat 32 k)) x).toNat < 144 := by
  have h := leastAt_lt fp fl 19 le_rfl x
  show (4#32 * leastAt fp fl 20 x + 8#32 + BitVec.ofNat 32 k).toNat < 144
  simp only [BitVec.toNat_add, BitVec.toNat_mul, BitVec.toNat_ofNat]
  generalize (leastAt fp fl (19 + 1) x).toNat = n at h
  omega

/-- Each lane's first word of its paired prediction lies in the predictions' scratch. -/
theorem pairWord_lt' (x : S16.Idx) : (pairWord fp fl x).toNat < 144 := by
  have h := leastAt_lt fp fl 19 le_rfl x
  show (4#32 * leastAt fp fl 20 x + 8#32).toNat < 144
  simp only [BitVec.toNat_add, BitVec.toNat_mul, BitVec.toNat_ofNat]
  generalize (leastAt fp fl (19 + 1) x).toNat = n at h
  omega

/-! ## The windows -/

set_option maxHeartbeats 4000000 in
/-- Window 2 carries the search on. -/
theorem part2_wp (h1 : k0_cond1 L = 1#1) {Q : _ → sProp 𝕄} :
    psPts d L fp ⊢ iprop((psPts d L fp -∗ Q ⟨least fp fl 2, leastAt fp fl 2, word fp 18, sqX fp fl 2, sqY fp fl 2⟩) -∗
      wpt (k0_part2 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 h1 (labX fl) (labY fl) (labR fl) (least fp fl 0) (leastAt fp fl 0) (word fp 10) (dist fp fl 0) halves) Q) := by
  rw [k0_part2_eq_skeleton]; unfold k0_part2_skel
  iintro H Hk
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  rw [wp_pure]
  imodintro
  iapply (post_eq (Q := Q) ?hr) $$ [H Hk]
  rotate_left
  · iapply Hk $$ H
  · rfl

set_option maxHeartbeats 4000000 in
/-- Window 3 carries the search on. -/
theorem part3_wp (h1 : k0_cond1 L = 1#1) {Q : _ → sProp 𝕄} :
    psPts d L fp ⊢ iprop((psPts d L fp -∗ Q ⟨least fp fl 4, leastAt fp fl 4, word fp 24, word fp 25, word fp 26⟩) -∗
      wpt (k0_part3 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 h1 (labX fl) (labY fl) (labR fl) (least fp fl 2) (leastAt fp fl 2) (word fp 18) (sqX fp fl 2) (sqY fp fl 2)) Q) := by
  rw [k0_part3_eq_skeleton]; unfold k0_part3_skel
  iintro H Hk
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  rw [wp_pure]
  imodintro
  iapply (post_eq (Q := Q) ?hr) $$ [H Hk]
  rotate_left
  · iapply Hk $$ H
  · rfl

set_option maxHeartbeats 4000000 in
/-- Window 4 carries the search on. -/
theorem part4_wp (h1 : k0_cond1 L = 1#1) {Q : _ → sProp 𝕄} :
    psPts d L fp ⊢ iprop((psPts d L fp -∗ Q ⟨least fp fl 6, leastAt fp fl 6, word fp 32, word fp 33⟩) -∗
      wpt (k0_part4 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 h1 (labX fl) (labY fl) (labR fl) (least fp fl 4) (leastAt fp fl 4) (word fp 24) (word fp 25) (word fp 26)) Q) := by
  rw [k0_part4_eq_skeleton]; unfold k0_part4_skel
  iintro H Hk
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  rw [wp_pure]
  imodintro
  iapply (post_eq (Q := Q) ?hr) $$ [H Hk]
  rotate_left
  · iapply Hk $$ H
  · rfl

set_option maxHeartbeats 4000000 in
/-- Window 5 carries the search on. -/
theorem part5_wp (h1 : k0_cond1 L = 1#1) {Q : _ → sProp 𝕄} :
    psPts d L fp ⊢ iprop((psPts d L fp -∗ Q ⟨least fp fl 8, leastAt fp fl 8, word fp 40⟩) -∗
      wpt (k0_part5 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 h1 (labX fl) (labY fl) (labR fl) (least fp fl 6) (leastAt fp fl 6) (word fp 32) (word fp 33)) Q) := by
  rw [k0_part5_eq_skeleton]; unfold k0_part5_skel
  iintro H Hk
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  rw [wp_pure]
  imodintro
  iapply (post_eq (Q := Q) ?hr) $$ [H Hk]
  rotate_left
  · iapply Hk $$ H
  · rfl

set_option maxHeartbeats 4000000 in
/-- Window 6 carries the search on. -/
theorem part6_wp (h1 : k0_cond1 L = 1#1) {Q : _ → sProp 𝕄} :
    psPts d L fp ⊢ iprop((psPts d L fp -∗ Q ⟨least fp fl 10, leastAt fp fl 10⟩) -∗
      wpt (k0_part6 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 h1 (labX fl) (labY fl) (labR fl) (least fp fl 8) (leastAt fp fl 8) (word fp 40)) Q) := by
  rw [k0_part6_eq_skeleton]; unfold k0_part6_skel
  iintro H Hk
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  rw [wp_pure]
  imodintro
  iapply (post_eq (Q := Q) ?hr) $$ [H Hk]
  rotate_left
  · iapply Hk $$ H
  · rfl

set_option maxHeartbeats 4000000 in
/-- Window 7 carries the search on. -/
theorem part7_wp (h1 : k0_cond1 L = 1#1) {Q : _ → sProp 𝕄} :
    psPts d L fp ⊢ iprop((psPts d L fp -∗ Q ⟨least fp fl 11, leastAt fp fl 11, cost fp fl 11, cmpf .olt (cost fp fl 11) (least fp fl 11)⟩) -∗
      wpt (k0_part7 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 h1 (labX fl) (labY fl) (labR fl) (least fp fl 10) (leastAt fp fl 10)) Q) := by
  rw [k0_part7_eq_skeleton]; unfold k0_part7_skel
  iintro H Hk
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  rw [wp_pure]
  imodintro
  iapply (post_eq (Q := Q) ?hr) $$ [H Hk]
  rotate_left
  · iapply Hk $$ H
  · rfl

set_option maxHeartbeats 4000000 in
/-- Window 8 carries the search on. -/
theorem part8_wp (h1 : k0_cond1 L = 1#1) {Q : _ → sProp 𝕄} :
    psPts d L fp ⊢ iprop((psPts d L fp -∗ Q ⟨least fp fl 13, leastAt fp fl 13, mulf halves (dist fp fl 13), gapR fp fl 13, Scalar.ofBits .f32 0x3F000000#32⟩) -∗
      wpt (k0_part8 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 h1 (labX fl) (labY fl) (labR fl) (least fp fl 11) (leastAt fp fl 11) (cost fp fl 11) (cmpf .olt (cost fp fl 11) (least fp fl 11))) Q) := by
  rw [k0_part8_eq_skeleton]; unfold k0_part8_skel
  iintro H Hk
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  rw [wp_pure]
  imodintro
  iapply (post_eq (Q := Q) ?hr) $$ [H Hk]
  rotate_left
  · iapply Hk $$ H
  · rfl

set_option maxHeartbeats 4000000 in
/-- Window 9 carries the search on. -/
theorem part9_wp (h1 : k0_cond1 L = 1#1) {Q : _ → sProp 𝕄} :
    psPts d L fp ⊢ iprop((psPts d L fp -∗ Q ⟨least fp fl 15, leastAt fp fl 15, word fp 70, dist fp fl 15, halves⟩) -∗
      wpt (k0_part9 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 h1 (labX fl) (labY fl) (labR fl) (least fp fl 13) (leastAt fp fl 13) (mulf halves (dist fp fl 13)) (gapR fp fl 13) (Scalar.ofBits .f32 0x3F000000#32)) Q) := by
  rw [k0_part9_eq_skeleton]; unfold k0_part9_skel
  iintro H Hk
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  rw [wp_pure]
  imodintro
  iapply (post_eq (Q := Q) ?hr) $$ [H Hk]
  rotate_left
  · iapply Hk $$ H
  · rfl

set_option maxHeartbeats 4000000 in
/-- Window 10 carries the search on. -/
theorem part10_wp (h1 : k0_cond1 L = 1#1) {Q : _ → sProp 𝕄} :
    psPts d L fp ⊢ iprop((psPts d L fp -∗ Q ⟨least fp fl 17, leastAt fp fl 17, word fp 78, sqX fp fl 17, sqY fp fl 17⟩) -∗
      wpt (k0_part10 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 h1 (labX fl) (labY fl) (labR fl) (least fp fl 15) (leastAt fp fl 15) (word fp 70) (dist fp fl 15) halves) Q) := by
  rw [k0_part10_eq_skeleton]; unfold k0_part10_skel
  iintro H Hk
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  rw [wp_pure]
  imodintro
  iapply (post_eq (Q := Q) ?hr) $$ [H Hk]
  rotate_left
  · iapply Hk $$ H
  · rfl

set_option maxHeartbeats 4000000 in
/-- Window 11 carries the search on. -/
theorem part11_wp (h1 : k0_cond1 L = 1#1) {Q : _ → sProp 𝕄} :
    psPts d L fp ⊢ iprop((psPts d L fp -∗ Q ⟨least fp fl 19, leastAt fp fl 19, word fp 84, word fp 85, word fp 86⟩) -∗
      wpt (k0_part11 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 h1 (labX fl) (labY fl) (labR fl) (least fp fl 17) (leastAt fp fl 17) (word fp 78) (sqX fp fl 17) (sqY fp fl 17)) Q) := by
  rw [k0_part11_eq_skeleton]; unfold k0_part11_skel
  iintro H Hk
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  iapply (scanP d L (fun _ => inb_const 144 _ (by decide))) $$ H; iintro H
  rw [wp_pure]
  imodintro
  iapply (post_eq (Q := Q) ?hr) $$ [H Hk]
  rotate_left
  · iapply Hk $$ H
  · rfl

set_option maxHeartbeats 4000000 in
/-- Window 12 ends the search and gathers each lane's pair. -/
theorem part12_wp (h1 : k0_cond1 L = 1#1) (hw : k0_chk68 L (pairAt fp fl)) {Q : _ → sProp 𝕄} :
    psPts d L fp ⊢ iprop((psPts d L fp -∗ Q ⟨pairAt fp fl, hw, valid, pick fp (addi (pairWord fp fl) (broadcast S16 3#32)),
      k0_pay90 (labX fl) (labY fl) (pick fp (pairWord fp fl)) (pick fp (addi (pairWord fp fl) (broadcast S16 1#32))),
      k0_pay91 (labR fl) (pick fp (addi (pairWord fp fl) (broadcast S16 2#32))), k0_pay92⟩) -∗
      wpt (k0_part12 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 h1 lanes (labX fl) (labY fl) (labR fl) (least fp fl 19) (leastAt fp fl 19) (word fp 84) (word fp 85) (word fp 86)) Q) := by
  rw [k0_part12_eq_skeleton]; unfold k0_part12_skel
  iintro H Hk
  iapply (guard d L hw)
  iapply (scanP d L (fun _ => inb_of_lt 144 _ (pairWord_lt' fp fl))) $$ H; iintro H
  iapply (scanP d L (fun _ => inb_of_lt 144 _ (pairWord_lt fp fl 1 (by decide)))) $$ H; iintro H
  iapply (scanP d L (fun _ => inb_of_lt 144 _ (pairWord_lt fp fl 2 (by decide)))) $$ H; iintro H
  iapply (scanP d L (fun _ => inb_of_lt 144 _ (pairWord_lt fp fl 3 (by decide)))) $$ H; iintro H
  rw [wp_pure]
  imodintro
  iapply (post_eq (Q := Q) ?hr) $$ [H Hk]
  rotate_left
  · iapply Hk $$ H
  · rfl

end Tile

end Cert.Proof.Kern

end
-- ==== Proof.Body.lean ====
/-
  The first window, which brings the predictions and the labels in and starts the search, and the last three, which sum
  over the pairs, mark them in the mask and sum over the predictions left unpaired.
-/
module

public import proofs.«01_k».proof.Proof.Windows
public import Idealize.ShloMosaic.Lib.WritesUnit

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "pV" => (Memref.whole Cert.KernelIdeal.main_v0_scv : Memref Cert.KernelIdeal.sig Kind.scVector Space.hbm Cert.KernelIdeal.S80 EltTy.f32)
local notation "lV" => (Memref.whole Cert.KernelIdeal.main_v1_scv : Memref Cert.KernelIdeal.sig Kind.scVector Space.hbm Cert.KernelIdeal.S48 EltTy.f32)
local notation "oV" => (Memref.whole Cert.KernelIdeal.main_v2_scv : Memref Cert.KernelIdeal.sig Kind.scVector Space.hbm Cert.KernelIdeal.S16 EltTy.f32)
local notation "psV" => (Memref.whole Cert.KernelIdeal.cc0_scratch0 : Memref Cert.KernelIdeal.sig Kind.scVector Space.vmem Cert.KernelIdeal.S144 EltTy.f32)
local notation "lsV" => (Memref.whole Cert.KernelIdeal.cc0_scratch1 : Memref Cert.KernelIdeal.sig Kind.scVector Space.vmem Cert.KernelIdeal.S64 EltTy.f32)
local notation "msV" => (Memref.whole Cert.KernelIdeal.cc0_scratch2 : Memref Cert.KernelIdeal.sig Kind.scVector Space.vmem Cert.KernelIdeal.S32 EltTy.f32)
local notation "osV" => (Memref.whole Cert.KernelIdeal.cc0_scratch3 : Memref Cert.KernelIdeal.sig Kind.scVector Space.vmem Cert.KernelIdeal.S16 EltTy.f32)
/-- The predictions' scratch once the predictions are copied into its words 8 to 87; the labels' once the labels are
    copied into its first 48. -/
def predScratch (fs : FVec F S144 .f32) (p : FVec F S80 .f32) : FVec F S144 .f32 :=
  (psV).view.writes (Elt F) fs [⟨Rect.unit (s := S144) ![8] S80.size inb_S144_S80_8, p⟩]
def labScratch (ls : FVec F S64 .f32) (l : FVec F S48 .f32) : FVec F S64 .f32 :=
  (lsV).view.writes (Elt F) ls [⟨Rect.unit (s := S64) ![0] S48.size inb_S64_S48_0, l⟩]

/-- Where the copies put their words. -/
theorem predScratch_at (fs : FVec F S144 .f32) (p : FVec F S80 .f32) (x : S80.Idx) (y : S144.Idx) (h : ∀ a : Fin 1, (y a).val = 8 + (x a).val) :
    predScratch fs p y = p x :=
  View.read_writes_cons_unit_of_mem (psV).view (Val := Elt F) fs inb_S144_S80_8 p [] y x rfl fun a => by
    match a with
    | 0 => exact h 0
/-- Where the labels' copy puts its words. -/
theorem labScratch_at (ls : FVec F S64 .f32) (l : FVec F S48 .f32) (x : S48.Idx) (y : S64.Idx) (h : ∀ a : Fin 1, (y a).val = (x a).val) :
    labScratch ls l y = l x :=
  View.read_writes_cons_unit_of_mem (lsV).view (Val := Elt F) ls inb_S64_S48_0 l [] y x rfl fun a => by
    match a with
    | 0 => exact (h 0).trans (Nat.zero_add _).symm

/-- The mask scratch once both its halves are written over with zeros. -/
theorem zeroed (f : FVec F S32 .f32) :
    (msV).view.writes (Elt F) f [⟨Rect.unit (s := S32) ![16] S16.size inb_S32_S16_16, k0_pay95⟩, ⟨Rect.unit (s := S32) ![0] S16.size inb_S32_S16_0, k0_pay94⟩]
      = (broadcast S32 (Scalar.ofBits .f32 0x00000000#32) : FVec F S32 .f32) := by
  funext y
  show (msV).view.read (Elt F) ((msV).view.writes (Elt F) f [⟨Rect.unit (s := S32) ![16] S16.size inb_S32_S16_16, k0_pay95⟩, ⟨Rect.unit (s := S32) ![0] S16.size inb_S32_S16_0, k0_pay94⟩]) y = _
  refine View.read_writes_apply_of_pieces (msV).view (Val := Elt F) f (fun _ => (Scalar.ofBits .f32 0x00000000#32 : F .f32)) _ ?_ y ?_
  · intro q hq x
    rcases List.mem_cons.mp hq with rfl | hq
    · rfl
    · rcases List.mem_cons.mp hq with rfl | hq
      · rfl
      · exact absurd hq List.not_mem_nil
  · have hy : (y 0).val < 32 := (y 0).isLt
    rcases Nat.lt_or_ge (y 0).val 16 with h | h
    · refine ⟨⟨Rect.unit (s := S32) ![0] S16.size inb_S32_S16_0, k0_pay94⟩, List.mem_cons_of_mem _ List.mem_cons_self, (Rect.mem_set_unit (inb := inb_S32_S16_0)).mpr fun a => ?_⟩
      match a with
      | 0 => exact ⟨Nat.zero_le _, by simpa using h⟩
    · refine ⟨⟨Rect.unit (s := S32) ![16] S16.size inb_S32_S16_16, k0_pay95⟩, List.mem_cons_self, (Rect.mem_set_unit (inb := inb_S32_S16_16)).mpr fun a => ?_⟩
      match a with
      | 0 => exact ⟨h, hy⟩

/-- A load of half of the mask scratch is that half of the mask. -/
theorem readAt_mask (fp : FVec F S144 .f32) (fl : FVec F S64 .f32) (o : ℕ) (ho : o ≤ 16) (inb : ∀ a, (![o] : Fin 1 → ℕ) a + S16.size a ≤ S32.size a) :
    (msV).view.readAt (Elt F) (Rect.unit (s := S32) ![o] S16.size inb).toLoadRect (mask fp fl) = maskFrom fp fl o ho := by
  funext x
  refine congrArg (mask fp fl) (funext fun a => Fin.ext ?_)
  match a with
  | 0 => exact congrArg (o + ·) (Nat.one_mul _)

section Tile

variable (d : Dev nD) (L : grid0.Coords)

local notation "wpt" => wp frame (wpE (defs₀ (F := F)) 𝒱₀ (V d (cV L) (jV L)) none) Set.univ

/-- Four times a lane's number and at most three more lies in the labels' scratch. -/
theorem lanes4_lt (c : BitVec 32) (hc : c.toNat ≤ 3) (x : S16.Idx) : (addi lanes4 (broadcast S16 c) x).toNat < 64 := by
  have h : (lanes4 x).toNat ≤ 60 := by revert x; decide
  show (lanes4 x + c).toNat < 64
  rw [BitVec.toNat_add]
  omega

set_option maxHeartbeats 4000000 in
/-- The body's first part: both copies in, waited for, leave the two scratch buffers holding the arrays, and the labels' vectors are read. -/
theorem part1_wp (h1 : k0_cond1 L = 1#1) (O : CellTallies nD τ sig (HIx 1)) (W : Waits sig (HIx 1)) (p : FVec F S80 .f32) (l : FVec F S48 .f32) (fs : FVec F S144 .f32) (ls : FVec F S64 .f32)
   {Q : _ → sProp 𝕄} :
    iprop(Transfers.MayWaits (V d (cV L) (jV L)) (default : HIx 1) O ∗ ((pV).view.loc (V d (cV L) (jV L)) ↦{fullShare} p) ∗ ((lV).view.loc (V d (cV L) (jV L)) ↦{fullShare} l)
      ∗ ((psV).view.loc (V d (cV L) (jV L)) ↦{fullShare} fs) ∗ ((lsV).view.loc (V d (cV L) (jV L)) ↦{fullShare} ls)
      ∗ semVal (pCell d (cV L) (jV L)) 0 ∗ semVal (lCell d (cV L) (jV L)) 0 ∗ owes (V d (cV L) (jV L)) O W) ⊢
      iprop(((Transfers.MayWaits (V d (cV L) (jV L)) (default : HIx 1) O ∗ ((pV).view.loc (V d (cV L) (jV L)) ↦{fullShare} p) ∗ ((lV).view.loc (V d (cV L) (jV L)) ↦{fullShare} l)
      ∗ psPts d L (predScratch fs p) ∗ lsPts d L (labScratch ls l)
      ∗ semVal (pCell d (cV L) (jV L)) 0 ∗ semVal (lCell d (cV L) (jV L)) 0
      ∗ owes (V d (cV L) (jV L)) O (insert (SemLoc.dma cc0_scratch4.sem, default) (insert (SemLoc.dma cc0_scratch5.sem, default) W)))
      -∗ Q ⟨lanes, lanes4, labX (labScratch ls l), labY (labScratch ls l), labR (labScratch ls l), least (predScratch fs p) (labScratch ls l) 0, leastAt (predScratch fs p) (labScratch ls l) 0, word (predScratch fs p) 10, dist (predScratch fs p) (labScratch ls l) 0, halves⟩)
      -∗ wpt (k0_part1 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 h1) Q) := by
  rw [k0_part1_eq_skeleton]; unfold k0_part1_skel
  iintro ⟨Hmw, Hp, Hl, Hps, Hls, Hs4, Hs5, HO⟩ Hk
  have hc1 : k0_chk1 L k0_pay2 := fun _ => inb_of_lt 64 _ fun x => by
    have h : (lanes4 x).toNat < 64 := by revert x; decide
    exact h
  sl_exec
  ihave Hls := (show ((lsV).view.loc (V d (cV L) (jV L)) ↦{fullShare} (lsV).view.writes (Elt F) ls [⟨Rect.unit (s := S64) ![0] S48.size inb_S64_S48_0, part1_wp.sl.dma0_1 l⟩]) ⊢ lsPts d L (labScratch ls l) from .rfl) $$ Hls
  iapply (gatherL d L (f := labScratch ls l)) $$ Hls; iintro Hls
  iapply (scanL d L (fun _ => inb_of_lt 64 _ (lanes4_lt _ (by decide)))) $$ Hls; iintro Hls
  iapply (scanL d L (fun _ => inb_of_lt 64 _ (lanes4_lt _ (by decide)))) $$ Hls; iintro Hls
  have hc4 : k0_chk4 L (broadcast S16 8#32) := fun _ => inb_const 144 _ (by decide)
  sl_exec
  ihave Hps := (show ((psV).view.loc (V d (cV L) (jV L)) ↦{fullShare} (psV).view.writes (Elt F) fs [⟨Rect.unit (s := S144) ![8] S80.size inb_S144_S80_8, part1_wp.sl.dma0 p⟩]) ⊢ psPts d L (predScratch fs p) from .rfl) $$ Hps
  iapply (gatherP d L (f := predScratch fs p)) $$ Hps; iintro Hps
  iapply (scanP d L (fun _ => inb_const 144 _ (by decide))) $$ Hps; iintro Hps
  iapply (scanP d L (fun _ => inb_const 144 _ (by decide))) $$ Hps; iintro Hps
  rw [wp_pure]
  imodintro
  iapply (post_eq (Q := Q) ?hr) $$ [Hmw Hp Hl Hps Hls Hs4 Hs5 HO Hk]
  rotate_left
  · iapply Hk $$ [Hmw Hp Hl Hps Hls Hs4 Hs5 HO]
    isplitl [Hmw]; · iexact Hmw
    isplitl [Hp]; · iexact Hp
    isplitl [Hl]; · iexact Hl
    isplitl [Hps]; · iexact Hps
    isplitl [Hls]; · iexact Hls
    isplitl [Hs4]; · iexact Hs4
    isplitl [Hs5]; · iexact Hs5
    iexact HO
  · rfl

/-- A scatter to the mask scratch leaves what its lanes put there. -/
theorem scatterM {β : Type} {v : IVec S16 32} {x : FVec F S16 .f32} {b : IVec S16 1} {h : ∀ a x, ((![v] : Fin 1 → IVec S16 32) a x).toNat < S32.size a}
    {hs : ((msV).access (.whole S32)).Stores Finset.univ}
    {f : FVec F S32 .f32} {k : PUnit → Prog (TpuEff nD τ sig (Elt F) Λ₀ (V d (cV L) (jV L)).2) β} {Q : β → sProp 𝕄} :
    msPts d L f ⊢ iprop((msPts d L (storeIdx (F := F) (e := .f32) f ![v] x b false h) -∗ wpt (k ⟨⟩) Q)
      -∗ wpt (SparseCore.vectorStoreIdx msV ![v] x b false h hs >>= k) Q) := by
  have hset : ((msV).access (.whole (cc0_scratch2 : Ref sig .scVector).ty.shape)).set = Finset.univ := Memref.set_access_whole cc0_scratch2
  have hr : ((msV).access (.whole (cc0_scratch2 : Ref sig .scVector).ty.shape)).read (Elt F) f = f := Memref.read_access_whole (Elt F) cc0_scratch2 f
  have hw := Memref.write_access_whole_univ (Elt F) (cc0_scratch2 : Ref sig .scVector) f (storeIdx (F := F) (e := .f32) f ![v] x b false h)
  have H := SparseCore.wp_vectorStoreIdx (Q := Q) (defs := defs₀ (F := F)) 𝒱₀ (V d (cV L) (jV L)) none Set.univ (base := msV) (idxs := ![v]) (v := x) (mask := b) (add := false)
    (h := h) (hs := hs) (k := k) (f := f)
  rw [hr, hw, hset] at H
  exact H

/-- Four times a lane's number and at most eighty more lies in the predictions' scratch. -/
theorem lanes4_lt' (c : BitVec 32) (hc : c.toNat ≤ 80) (x : S16.Idx) : (addi lanes4 (broadcast S16 c) x).toNat < 144 := by
  have h : (lanes4 x).toNat ≤ 60 := by revert x; decide
  show (lanes4 x + c).toNat < 144
  rw [BitVec.toNat_add]
  omega

section P14
variable (fp : FVec F S144 .f32) (fl : FVec F S64 .f32)

set_option maxHeartbeats 4000000 in
/-- Window 14 zeroes the mask, marks the pairs in it, and gathers every prediction's radius and confidence. -/
theorem part14_wp (h1 : k0_cond1 L = 1#1) (hw : k0_chk68 L (pairAt fp fl)) (f : FVec F S32 .f32) {Q : _ → sProp 𝕄} :
    iprop(psPts d L fp ∗ msPts d L f) ⊢ iprop((psPts d L fp ∗ (∃ g, msPts d L g) -∗ Q ⟨pick fp (k0_pay98 lanes4), maskFrom fp fl 0 (by decide), maskFrom fp fl 16 le_rfl,
        k0_pay101 (pick fp (k0_pay97 lanes4)) (pick fp (k0_pay99 lanes4)), k0_pay102 (pick fp (k0_pay100 lanes4)), k0_pay103⟩) -∗
      wpt (k0_part14 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 h1 lanes4 (pairAt fp fl) hw valid k0_pay94) Q) := by
  rw [k0_part14_eq_skeleton]; unfold k0_part14_skel
  iintro ⟨H, Hm⟩ Hk
  ihave Hm := (show msPts d L f ⊢ ((msV).view.loc (V d (cV L) (jV L)) ↦{fullShare} f) from .rfl) $$ Hm
  sl_exec
  ihave Hm := (show ((msV).view.loc (V d (cV L) (jV L)) ↦{fullShare} (msV).view.writes (Elt F) f [⟨Rect.unit (s := S32) ![16] S16.size inb_S32_S16_16, k0_pay95⟩, ⟨Rect.unit (s := S32) ![0] S16.size inb_S32_S16_0, k0_pay94⟩])
    ⊢ msPts d L (broadcast S32 (Scalar.ofBits .f32 0x00000000#32)) from Entails.of_eq (congrArg (msPts d L) (zeroed f))) $$ Hm
  iapply (scatterM d L) $$ Hm; iintro Hm
  iapply (scanP d L (fun _ => inb_of_lt 144 _ (lanes4_lt' _ (by decide)))) $$ H; iintro H
  iapply (scanP d L (fun _ => inb_of_lt 144 _ (lanes4_lt' _ (by decide)))) $$ H; iintro H
  iapply (scanP d L (fun _ => inb_of_lt 144 _ (lanes4_lt' _ (by decide)))) $$ H; iintro H
  iapply (scanP d L (fun _ => inb_of_lt 144 _ (lanes4_lt' _ (by decide)))) $$ H; iintro H
  ihave Hm := (show msPts d L (storeIdx (F := F) (e := .f32) (broadcast S32 (Scalar.ofBits .f32 0x00000000#32)) ![pairAt fp fl] (k0_pay96 (F := F)) valid false (k0_idx68_inb L (pairAt fp fl) hw h1))
    ⊢ ((msV).view.loc (V d (cV L) (jV L)) ↦{fullShare} mask fp fl) from .rfl) $$ Hm
  sl_exec
  sl_step
  iapply (post_eq (Q := Q) ?hr) $$ [H Hm Hk]
  rotate_left
  · iapply Hk $$ [H Hm]
    isplitl [H]; · iexact H
    iexists mask fp fl; iexact Hm
  · rw [← readAt_mask fp fl 0 (by decide) inb_S32_S16_0, ← readAt_mask fp fl 16 le_rfl inb_S32_S16_16]
/-- Window 13 sums over the pairs. -/
theorem part13_wp (h1 : k0_cond1 L = 1#1) {Q : _ → sProp 𝕄} :
    psPts d L fp ⊢ iprop((psPts d L fp -∗ Q ⟨pairSum fp fl, k0_pay94⟩) -∗
      wpt (k0_part13 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 valid (pick fp (addi (pairWord fp fl) (broadcast S16 3#32)))
        (k0_pay90 (labX fl) (labY fl) (pick fp (pairWord fp fl)) (pick fp (addi (pairWord fp fl) (broadcast S16 1#32))))
        (k0_pay91 (labR fl) (pick fp (addi (pairWord fp fl) (broadcast S16 2#32)))) k0_pay92) Q) := by
  rw [k0_part13_eq_skeleton]; unfold k0_part13_skel
  iintro H Hk
  rw [wp_pure]
  imodintro
  iapply (post_eq (Q := Q) ?hr) $$ [H Hk]
  rotate_left
  · iapply Hk $$ H
  · rfl

/-- Window 15 sums over the predictions that no label is paired with. -/
theorem part15_wp (h1 : k0_cond1 L = 1#1) {Q : _ → sProp 𝕄} :
    psPts d L fp ⊢ iprop((psPts d L fp -∗ Q ⟨k0_pay104 lanes (pick fp (k0_pay98 lanes4)) (maskFrom fp fl 0 (by decide)) (maskFrom fp fl 16 le_rfl) (k0_pay101 (pick fp (k0_pay97 lanes4)) (pick fp (k0_pay99 lanes4))) (k0_pay102 (pick fp (k0_pay100 lanes4))) k0_pay103, k0_pay105 (pairSum fp fl), k0_pay106 lanes (pick fp (k0_pay98 lanes4)) (maskFrom fp fl 0 (by decide)) (maskFrom fp fl 16 le_rfl) (k0_pay101 (pick fp (k0_pay97 lanes4)) (pick fp (k0_pay99 lanes4))) (k0_pay102 (pick fp (k0_pay100 lanes4))) k0_pay103, k0_pay107 lanes (pick fp (k0_pay98 lanes4)) (maskFrom fp fl 0 (by decide)) (maskFrom fp fl 16 le_rfl) (k0_pay101 (pick fp (k0_pay97 lanes4)) (pick fp (k0_pay99 lanes4))) (k0_pay102 (pick fp (k0_pay100 lanes4))) k0_pay103⟩) -∗
      wpt (k0_part15 L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0 lanes (pairSum fp fl) (pick fp (k0_pay98 lanes4)) (maskFrom fp fl 0 (by decide)) (maskFrom fp fl 16 le_rfl)
        (k0_pay101 (pick fp (k0_pay97 lanes4)) (pick fp (k0_pay99 lanes4))) (k0_pay102 (pick fp (k0_pay100 lanes4))) k0_pay103) Q) := by
  rw [k0_part15_eq_skeleton]; unfold k0_part15_skel
  iintro H Hk
  rw [wp_pure]
  imodintro
  iapply Hk $$ H
end P14

end Tile

end Cert.Proof.Kern

end
-- ==== Proof.Tile.lean ====
/-
  The working subcore's body, its windows put together.
-/
module

public import proofs.«01_k».proof.Proof.Body
public import Idealize.ShloMosaic.Lib.WritesUnit

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "pV" => (Memref.whole Cert.KernelIdeal.main_v0_scv : Memref Cert.KernelIdeal.sig Kind.scVector Space.hbm Cert.KernelIdeal.S80 EltTy.f32)
local notation "lV" => (Memref.whole Cert.KernelIdeal.main_v1_scv : Memref Cert.KernelIdeal.sig Kind.scVector Space.hbm Cert.KernelIdeal.S48 EltTy.f32)
local notation "oV" => (Memref.whole Cert.KernelIdeal.main_v2_scv : Memref Cert.KernelIdeal.sig Kind.scVector Space.hbm Cert.KernelIdeal.S16 EltTy.f32)
local notation "psV" => (Memref.whole Cert.KernelIdeal.cc0_scratch0 : Memref Cert.KernelIdeal.sig Kind.scVector Space.vmem Cert.KernelIdeal.S144 EltTy.f32)
local notation "lsV" => (Memref.whole Cert.KernelIdeal.cc0_scratch1 : Memref Cert.KernelIdeal.sig Kind.scVector Space.vmem Cert.KernelIdeal.S64 EltTy.f32)
local notation "msV" => (Memref.whole Cert.KernelIdeal.cc0_scratch2 : Memref Cert.KernelIdeal.sig Kind.scVector Space.vmem Cert.KernelIdeal.S32 EltTy.f32)
local notation "osV" => (Memref.whole Cert.KernelIdeal.cc0_scratch3 : Memref Cert.KernelIdeal.sig Kind.scVector Space.vmem Cert.KernelIdeal.S16 EltTy.f32)
section Tile

variable (d : Dev nD) (L : grid0.Coords)

local notation "wpt" => wp frame (wpE (defs₀ (F := F)) 𝒱₀ (V d (cV L) (jV L)) none) Set.univ

/-- A window run, then the rest of the body at what the window passes on. -/
theorem chain {β γ : Type} {P R : sProp 𝕄} {prog : Prog (TpuEff nD τ sig (Elt F) Λ₀ (V d (cV L) (jV L)).2) β} {a : β}
    (h : ∀ Q' : β → sProp 𝕄, P ⊢ iprop((R -∗ Q' a) -∗ wpt prog Q')) {k : β → Prog (TpuEff nD τ sig (Elt F) Λ₀ (V d (cV L) (jV L)).2) γ} {Q : γ → sProp 𝕄} :
    P ⊢ iprop((R -∗ wpt (k a) Q) -∗ wpt (prog >>= k) Q) := by
  rw [wp_bind]
  exact h fun x => wpt (k x) Q

/-- The same, the rest of the body told as an equal program. -/
theorem chainTo {β γ : Type} {P R : sProp 𝕄} {prog : Prog (TpuEff nD τ sig (Elt F) Λ₀ (V d (cV L) (jV L)).2) β} {a : β}
    {b : Prog (TpuEff nD τ sig (Elt F) Λ₀ (V d (cV L) (jV L)).2) γ}
    (h : ∀ Q' : β → sProp 𝕄, P ⊢ iprop((R -∗ Q' a) -∗ wpt prog Q')) {k : β → Prog (TpuEff nD τ sig (Elt F) Λ₀ (V d (cV L) (jV L)).2) γ} (hk : k a = b) {Q : γ → sProp 𝕄} :
    P ⊢ iprop((R -∗ wpt b Q) -∗ wpt (prog >>= k) Q) := by
  subst hk
  exact chain d L h

/-- The end of the body: a store of the loss to the output scratch, and the copy out. -/
def lastProg (L : grid0.Coords) (w : FVec F S16 .f32) : Prog (TpuEff nD τ sig (Elt F) Λ₀ (.scVector ((L 0).castLE hcore0) ((L 1).castLE hsub0))) PUnit :=
  do
    let _ : Vec F S16 .f32 ← Prog.lift (.load osV (Rect.unit (s := S16) ![0] S16.size inb_S16_S16_0).toLoadRect (View.loadsAt_vmem h_S16))
    Prog.lift (.store osV (Rect.unit (s := S16) ![0] S16.size inb_S16_S16_0) w Finset.univ (View.stores_vmem_bits_univ h_S16 rfl) (.inl rfl))
    Prog.lift (.enqueueDma osV (.here oV) (.dma cc0_scoped0.sem) (Memref.isWhole_whole _).wordExact (Memref.isWhole_whole _).wordExact ⟨Or.inl rfl, trivial⟩)
    Prog.lift (.waitDma2 cc0_scoped0.sem osV oV (Memref.isWhole_whole _).wordExact (Memref.isWhole_whole _).wordExact)
    pure ⟨⟩

/-- What the copy out carries is what was stored. -/
theorem stored (os w : FVec F S16 .f32) :
    (osV).view.read (Elt F) ((osV).view.writes (Elt F) os [⟨Rect.unit (s := S16) ![0] S16.size inb_S16_S16_0, w⟩]) = w := by
  funext y
  refine View.read_writes_cons_unit_of_mem (osV).view (Val := Elt F) os inb_S16_S16_0 w [] y y rfl fun a => ?_
  match a with
  | 0 => exact (Nat.zero_add _).symm

/-- The end of the body: the loss is stored on every lane of the output scratch and copied out. -/
theorem tail_wp (O : CellTallies nD τ sig (HIx 1)) (W : Waits sig (HIx 1)) (o os w : FVec F S16 .f32) {Q : PUnit → sProp 𝕄} :
    iprop(Transfers.MayWaits (V d (cV L) (jV L)) (default : HIx 1) O ∗ ((oV).view.loc (V d (cV L) (jV L)) ↦{fullShare} o)
      ∗ ((osV).view.loc (V d (cV L) (jV L)) ↦{fullShare} os) ∗ semVal (oCell d (cV L) (jV L)) 0 ∗ owes (V d (cV L) (jV L)) O W) ⊢
    iprop(((((oV).view.loc (V d (cV L) (jV L)) ↦{fullShare} w) ∗ (∃ f, osPts d L f) ∗ semVal (oCell d (cV L) (jV L)) 0
        ∗ owes (V d (cV L) (jV L)) O (insert (SemLoc.dma cc0_scoped0.sem, default) W)) -∗ Q ⟨⟩)
      -∗ wpt (lastProg L w) Q) := by
  unfold lastProg
  iintro ⟨Hmw, Ho, Hos, Hs0, HO⟩ Hk
  sl_exec
  sl_step
  iapply Hk $$ [Ho Hos Hs0 HO]
  isplitl [Ho]
  · iapply (show ((oV).view.loc (V d (cV L) (jV L)) ↦{fullShare} View.write (Elt F) (oV).view o (tail_wp.sl.dma2 os w) Finset.univ) ⊢ ((oV).view.loc (V d (cV L) (jV L)) ↦{fullShare} w) from
      Entails.of_eq (congrArg (fun g => ((oV).view.loc (V d (cV L) (jV L)) ↦{fullShare} g : sProp 𝕄)) ((View.write_whole_univ (Val := Elt F) main_v2_scv o (tail_wp.sl.dma2 os w)).trans (stored os w)))) $$ Ho
  isplitl [Hos]; · iexists _; iexact Hos
  isplitl [Hs0]; · iexact Hs0
  iexact HO

set_option maxHeartbeats 1000000 in
/-- What the working subcore does: from the predictions and the labels it leaves in the output buffer the vector that
    the scratch contents name, whatever the scratch held before. -/
theorem tile_body (h1 : k0_cond1 L = 1#1) (hF : (K (F := F)).Facts) (O : CellTallies nD τ sig (HIx 1)) (W : Waits sig (HIx 1)) (hO : ∀ g, O g none = 0)
    (p : FVec F S80 .f32) (l : FVec F S48 .f32) (o : FVec F S16 .f32) :
    iprop(levAts (K (F := F)).L (K (F := F)).lev ∗ emp
        ∗ (((pV).view.loc (V d (cV L) (jV L)) ↦{fullShare} p) ∗ ((lV).view.loc (V d (cV L) (jV L)) ↦{fullShare} l) ∗ ((oV).view.loc (V d (cV L) (jV L)) ↦{fullShare} o))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ (cc0__sc_loss L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0) fun _ => iprop(
        (((pV).view.loc (V d (cV L) (jV L)) ↦{fullShare} p) ∗ ((lV).view.loc (V d (cV L) (jV L)) ↦{fullShare} l)
            ∗ ∃ fs, ∃ ls, (oV).view.loc (V d (cV L) (jV L)) ↦{fullShare} outVec (predScratch fs p) (labScratch ls l))
          ∗ scopedBufs (V d (cV L) (jV L)) ∗ scopedSems0 (V d (cV L) (jV L))
          ∗ ∃ W', ⌜∀ q ∈ W', q ∈ W ∨ q.2 = none⌝ ∗ owes (V d (cV L) (jV L)) O W') : sProp 𝕄) := by
  simp only [cc0__sc_loss_eq_skeleton]
  unfold cc0__sc_loss_skel
  rw [(K (F := F)).scopedBufs_V hF d (cV L) (jV L), SparseCore.Cfg.scopedSems0_V (Val := Elt F) d (cV L) (jV L), ownSems0_V, ownBufs_V]
  rw [dif_pos h1]
  iintro ⟨#Hlv, -, ⟨Hp, Hl, Ho⟩, ⟨⟨%fs, Hps⟩, ⟨%ls, Hls⟩, ⟨%ms, Hms⟩, ⟨%os, Hos⟩, Hbufs⟩, ⟨Hs4, Hs5, Hs0, Hsems⟩, HO⟩
  ihave Hmw := (show levAts (K (F := F)).L (K (F := F)).lev ⊢ Transfers.MayWaits (V d (cV L) (jV L)) (default : HIx 1) O from (K (F := F)).mayWaits_none (thr := V d (cV L) (jV L)) hO) $$ Hlv
  have hw : k0_chk68 L (pairAt (predScratch fs p) (labScratch ls l)) :=
    fun _ => inb_of_lt 32 _ fun x => Nat.lt_of_le_of_lt (leastAt_lt _ _ 19 le_rfl x) (by decide)
  iapply (chain d L (fun Q' => part1_wp d L h1 O W p l fs ls (Q := Q'))) $$ [Hmw Hp Hl Hps Hls Hs4 Hs5 HO]
  · isplitl [Hmw]; · iexact Hmw
    isplitl [Hp]; · iexact Hp
    isplitl [Hl]; · iexact Hl
    isplitl [Hps]; · iexact Hps
    isplitl [Hls]; · iexact Hls
    isplitl [Hs4]; · iexact Hs4
    isplitl [Hs5]; · iexact Hs5
    iexact HO
  iintro ⟨Hmw, Hp, Hl, Hps, Hls, Hs4, Hs5, HO⟩
  iapply (chain d L (fun Q' => part2_wp d L (predScratch fs p) (labScratch ls l) h1 (Q := Q'))) $$ Hps; iintro Hps
  iapply (chain d L (fun Q' => part3_wp d L (predScratch fs p) (labScratch ls l) h1 (Q := Q'))) $$ Hps; iintro Hps
  iapply (chain d L (fun Q' => part4_wp d L (predScratch fs p) (labScratch ls l) h1 (Q := Q'))) $$ Hps; iintro Hps
  iapply (chain d L (fun Q' => part5_wp d L (predScratch fs p) (labScratch ls l) h1 (Q := Q'))) $$ Hps; iintro Hps
  iapply (chain d L (fun Q' => part6_wp d L (predScratch fs p) (labScratch ls l) h1 (Q := Q'))) $$ Hps; iintro Hps
  iapply (chain d L (fun Q' => part7_wp d L (predScratch fs p) (labScratch ls l) h1 (Q := Q'))) $$ Hps; iintro Hps
  iapply (chain d L (fun Q' => part8_wp d L (predScratch fs p) (labScratch ls l) h1 (Q := Q'))) $$ Hps; iintro Hps
  iapply (chain d L (fun Q' => part9_wp d L (predScratch fs p) (labScratch ls l) h1 (Q := Q'))) $$ Hps; iintro Hps
  iapply (chain d L (fun Q' => part10_wp d L (predScratch fs p) (labScratch ls l) h1 (Q := Q'))) $$ Hps; iintro Hps
  iapply (chain d L (fun Q' => part11_wp d L (predScratch fs p) (labScratch ls l) h1 (Q := Q'))) $$ Hps; iintro Hps
  iapply (chain d L (fun Q' => part12_wp d L (predScratch fs p) (labScratch ls l) h1 hw (Q := Q'))) $$ Hps; iintro Hps
  iapply (chain d L (fun Q' => part13_wp d L (predScratch fs p) (labScratch ls l) h1 (Q := Q'))) $$ Hps; iintro Hps
  iapply (chain d L (fun Q' => part14_wp d L (predScratch fs p) (labScratch ls l) h1 hw ms (Q := Q'))) $$ [Hps Hms]
  · isplitl [Hps]; · iexact Hps
    iexact Hms
  iintro ⟨Hps, ⟨%ms', Hms⟩⟩
  iapply (chainTo d L (b := lastProg L (outVec (predScratch fs p) (labScratch ls l))) (fun Q' => part15_wp d L (predScratch fs p) (labScratch ls l) h1 (Q := Q')) ?hk) $$ Hps
  · rfl
  iintro Hps
  iapply (tail_wp d L O _ o os (outVec (predScratch fs p) (labScratch ls l))) $$ [Hmw Ho Hos Hs0 HO]
  · isplitl [Hmw]; · iexact Hmw
    isplitl [Ho]; · iexact Ho
    isplitl [Hos]; · iexact Hos
    isplitl [Hs0]; · iexact Hs0
    iexact HO
  iintro ⟨Ho, Hos, Hs0, HO⟩
  isplitl [Hp Hl Ho]
  · isplitl [Hp]; · iexact Hp
    isplitl [Hl]; · iexact Hl
    iexists fs; iexists ls; iexact Ho
  isplitl [Hps Hls Hms Hos Hbufs]
  · isplitl [Hps]; · iexists _; iexact Hps
    isplitl [Hls]; · iexists _; iexact Hls
    isplitl [Hms]; · iexists _; iexact Hms
    isplitl [Hos]; · iexact Hos
    iexact Hbufs
  isplitl [Hs4 Hs5 Hs0 Hsems]
  · isplitl [Hs4]; · iexact Hs4
    isplitl [Hs5]; · iexact Hs5
    isplitl [Hs0]; · iexact Hs0
    iexact Hsems
  iexists _
  isplitr [HO]
  rotate_left
  · iexact HO
  ipureintro
  intro q hq
  rcases Finset.mem_insert.mp hq with hq | hq
  · exact .inr (hq ▸ rfl)
  rcases Finset.mem_insert.mp hq with hq | hq
  · exact .inr (hq ▸ rfl)
  rcases Finset.mem_insert.mp hq with hq | hq
  · exact .inr (hq ▸ rfl)
  exact .inl hq

end Tile

end Cert.Proof.Kern

end
-- ==== Proof.Launch.lean ====
/-
  The kernel's run: the flattenings, the SparseCore call (one working subcore, fifteen idle ones), the first lane taken.
-/
module

public import proofs.«01_k».proof.Proof.Tile

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F] [Named F]

local notation "𝕄" => MT nD τ sig (HIx 1) (Elt F) ℕ UU ℕ
local notation "pV" => (Memref.whole Cert.KernelIdeal.main_v0_scv : Memref Cert.KernelIdeal.sig Kind.scVector Space.hbm Cert.KernelIdeal.S80 EltTy.f32)
local notation "lV" => (Memref.whole Cert.KernelIdeal.main_v1_scv : Memref Cert.KernelIdeal.sig Kind.scVector Space.hbm Cert.KernelIdeal.S48 EltTy.f32)
local notation "oV" => (Memref.whole Cert.KernelIdeal.main_v2_scv : Memref Cert.KernelIdeal.sig Kind.scVector Space.hbm Cert.KernelIdeal.S16 EltTy.f32)
local notation "psV" => (Memref.whole Cert.KernelIdeal.cc0_scratch0 : Memref Cert.KernelIdeal.sig Kind.scVector Space.vmem Cert.KernelIdeal.S144 EltTy.f32)
local notation "lsV" => (Memref.whole Cert.KernelIdeal.cc0_scratch1 : Memref Cert.KernelIdeal.sig Kind.scVector Space.vmem Cert.KernelIdeal.S64 EltTy.f32)
local notation "msV" => (Memref.whole Cert.KernelIdeal.cc0_scratch2 : Memref Cert.KernelIdeal.sig Kind.scVector Space.vmem Cert.KernelIdeal.S32 EltTy.f32)
local notation "osV" => (Memref.whole Cert.KernelIdeal.cc0_scratch3 : Memref Cert.KernelIdeal.sig Kind.scVector Space.vmem Cert.KernelIdeal.S16 EltTy.f32)

/-! ## The launch memory, step by step -/

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The host operations: the two flattenings before the call, the first lane and its reshape after it. -/
abbrev flatP : HloOp τ sig (Elt F) := StableHlo.reshape main_arg0 main_v0 (rfl : (.f32 : EltTy) = .f32) shapeCasts_S20x4_S80
abbrev flatL : HloOp τ sig (Elt F) := StableHlo.reshape main_arg1 main_v1 (rfl : (.f32 : EltTy) = .f32) shapeCasts_S12x4_S48
abbrev firstLane : HloOp τ sig (Elt F) :=
  StableHlo.unary main_v2 main_v3 ((extractStridedSlice S1 ![0] · slices_S16_S1_0) : (⟨S16, .f32⟩ : BufTy).Contents (Elt F) → (⟨S1, .f32⟩ : BufTy).Contents (Elt F))
abbrev asScalar : HloOp τ sig (Elt F) := StableHlo.reshape main_v3 main_v4 (rfl : (.f32 : EltTy) = .f32) shapeCasts_S1_S_

/-- The TensorCore's arrays. -/
abbrev S7 : Finset (DevRef τ sig) := {a0', a1', v0', v1', v2', v3', v4'}

/-- The contents of a device's arrays at the launch, after the flattenings, after the call left `o`, and at the end. -/
def W0 (d : Dev nD) : Valuation τ sig (Elt F) := fun b => m (d, b)
def W2 (d : Dev nD) : Valuation τ sig (Elt F) := (flatL (F := F)).result ((flatP (F := F)).result (W0 m d))
def W3 (d : Dev nD) (o : FVec F S16 .f32) : Valuation τ sig (Elt F) := Function.update (W2 m d) v2' o
def W5 (d : Dev nD) (o : FVec F S16 .f32) : Valuation τ sig (Elt F) := (asScalar (F := F)).result ((firstLane (F := F)).result (W3 m d o))

/-- The flattened predictions and labels the call reads. -/
def pAt (d : Dev nD) : FVec F S80 .f32 := shapeCast S80 (m ((SparseCore.T d).loc main_arg0) : FVec F S20x4 .f32) shapeCasts_S20x4_S80
def lAt (d : Dev nD) : FVec F S48 .f32 := shapeCast S48 (m ((SparseCore.T d).loc main_arg1) : FVec F S12x4 .f32) shapeCasts_S12x4_S48
def scalarOf (o : FVec F S16 .f32) : FVec F S_ .f32 := shapeCast S_ (extractStridedSlice S1 ![0] o slices_S16_S1_0 : FVec F S1 .f32) shapeCasts_S1_S_

/-- Holding the TensorCore's arrays is holding each of the seven. -/
theorem held_S7 (d : Dev nD) (W : Valuation τ sig (Elt F)) :
    (held (T d) S7 W : sProp 𝕄) = iprop(((SparseCore.T d).loc main_arg0 ↦{fullShare} W a0') ∗ ((SparseCore.T d).loc main_arg1 ↦{fullShare} W a1')
      ∗ (pLoc d ↦{fullShare} W v0') ∗ (lLoc d ↦{fullShare} W v1') ∗ (oLoc d ↦{fullShare} W v2')
      ∗ ((SparseCore.T d).loc main_v3 ↦{fullShare} W v3') ∗ (SparseCore.T d).loc main_v4 ↦{fullShare} W v4') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The unscoped buffers are the seven arrays. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ (pLoc d ↦{fullShare} W main_v0) ∗ (lLoc d ↦{fullShare} W main_v1) ∗ (oLoc d ↦{fullShare} W main_v2)
      ∗ ((SparseCore.T d).loc main_v3 ↦{fullShare} W main_v3) ∗ (SparseCore.T d).loc main_v4 ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The unscoped buffers at the launch are the seven arrays at their launch contents. -/
theorem unscoped_held (d : Dev nD) : (unscopedBufs d (fun b => m ((SparseCore.T d).loc b)) : sProp 𝕄) = held (T d) S7 (W0 m d) := by
  rw [unscopedBufs_eq, held_S7]; rfl

/-- After the flattenings `v0` and `v1` hold the flattened arrays and everything else is as at the launch. -/
theorem W2_v0 (d : Dev nD) : W2 m d v0' = pAt m d := by
  unfold W2
  rw [(flatL (F := F)).result_of_not_mem _ (b := v0') (show v0' ∉ ({v1'} : Finset (DevRef τ sig)) by decide)]
  exact StableHlo.reshape_result' (x := main_arg0) (y := main_v0) _ _ _ _ _
/-- After the flattenings `v1` holds the flattened labels. -/
theorem W2_v1 (d : Dev nD) : W2 m d v1' = lAt m d := by
  unfold W2
  refine (StableHlo.reshape_result' (x := main_arg1) (y := main_v1) _ _ _ _ _).trans ?_
  rw [(flatP (F := F)).result_of_not_mem _ (b := a1') (show a1' ∉ ({v0'} : Finset (DevRef τ sig)) by decide)]
  rfl
/-- The flattenings leave every other array as at the launch. -/
theorem W2_of (d : Dev nD) (b : DevRef τ sig) (h0 : b ∉ ({v0'} : Finset (DevRef τ sig))) (h1 : b ∉ ({v1'} : Finset (DevRef τ sig))) : W2 m d b = m (d, b) := by
  unfold W2
  rw [(flatL (F := F)).result_of_not_mem _ (b := b) h1, (flatP (F := F)).result_of_not_mem _ (b := b) h0]; rfl

/-- At the end `v4` holds the first lane of what the call left, and the arguments are as at the launch. -/
theorem W5_v4 (d : Dev nD) (o : FVec F S16 .f32) : W5 m d o v4' = scalarOf o := by
  unfold W5
  refine (StableHlo.reshape_result' (x := main_v3) (y := main_v4) _ _ _ _ _).trans ?_
  have h : (firstLane (F := F)).result (W3 m d o) v3' = extractStridedSlice S1 ![0] o slices_S16_S1_0 :=
    (StableHlo.unary_result' (x := main_v2) (y := main_v3) _ _ _ _).trans
      (congrArg (fun z : FVec F S16 .f32 => extractStridedSlice S1 ![0] z slices_S16_S1_0) (Function.update_self v2' o (W2 m d)))
  exact congrArg (fun z : FVec F S1 .f32 => shapeCast S_ z shapeCasts_S1_S_) h
/-- At the end an array that nothing wrote is as at the launch. -/
theorem W5_of (d : Dev nD) (o : FVec F S16 .f32) (b : DevRef τ sig) (h0 : b ∉ ({v0'} : Finset (DevRef τ sig))) (h1 : b ∉ ({v1'} : Finset (DevRef τ sig)))
    (h2 : b ≠ v2') (h3 : b ∉ ({v3'} : Finset (DevRef τ sig))) (h4 : b ∉ ({v4'} : Finset (DevRef τ sig))) : W5 m d o b = m (d, b) := by
  unfold W5 W3
  rw [(asScalar (F := F)).result_of_not_mem _ (b := b) h4, (firstLane (F := F)).result_of_not_mem _ (b := b) h3, Function.update_of_ne h2, W2_of m d b h0 h1]

/-! ## What the call takes and brings back -/

/-- The flattened predictions and labels whole, and the output whole at given contents. -/
abbrev taken3 (d : Dev nD) (o : FVec F S16 .f32) : sProp 𝕄 := iprop((pLoc d ↦{fullShare} pAt m d) ∗ (lLoc d ↦{fullShare} lAt m d) ∗ oLoc d ↦{fullShare} o)

/-- The working subcore's output: the output vector from the flattened arrays copied over some scratch. -/
abbrev left3 (d : Dev nD) : sProp 𝕄 := iprop((pLoc d ↦{fullShare} pAt m d) ∗ (lLoc d ↦{fullShare} lAt m d)
  ∗ ∃ fs, ∃ ls, oLoc d ↦{fullShare} outVec (predScratch fs (pAt m d)) (labScratch ls (lAt m d)))

/-- What subcore `i` takes and brings back: everything for subcore 0, nothing for the others. -/
def goes (d : Dev nD) (i : Fin 16) : sProp 𝕄 := if i = 0 then taken3 m d (m (oLoc d)) else iprop(emp)
def comes (d : Dev nD) (i : Fin 16) : sProp 𝕄 := if i = 0 then left3 m d else iprop(emp)

instance goes_storable (d : Dev nD) (i : Fin 16) : BI.Storable (upEmb : UEmb _ 𝕄) (goes m d i) := by
  unfold goes; split <;> infer_instance
instance comes_storable (d : Dev nD) (i : Fin 16) : BI.Storable (upEmb : UEmb _ 𝕄) (comes m d i) := by
  unfold comes; split <;> infer_instance

def P : (K (F := F)).Pay (nD := nD) (Val := Elt F) (Name := ℕ) (U := UU) where
  st := fun q d _ => match q with | 0 => taken3 m d (m (oLoc d))
  dn := fun q d _ => match q with | 0 => left3 m d
  go := fun q d _ i => match q with | 0 => goes m d (Fin.cast nSub_zero i)
  td := fun q d _ i => match q with | 0 => comes m d (Fin.cast nSub_zero i)
  x := fun _ _ => iprop(emp)

instance P_storable : (P (F := F) m).IsStorable where
  st q d _ := match q with | 0 => (inferInstance : BI.Storable (upEmb : UEmb _ 𝕄) (taken3 m d (m (oLoc d))))
  dn q d _ := match q with | 0 => (inferInstance : BI.Storable (upEmb : UEmb _ 𝕄) (left3 m d))
  go q d _ i := match q with | 0 => (inferInstance : BI.Storable (upEmb : UEmb _ 𝕄) (goes m d (Fin.cast nSub_zero i)))
  td q d _ i := match q with | 0 => (inferInstance : BI.Storable (upEmb : UEmb _ 𝕄) (comes m d (Fin.cast nSub_zero i)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

/-- The kernel's condition holds on subcore 0 and on no other. -/
theorem cond1_iff (c : Fin (grid0.bound 0)) (s : Fin (grid0.bound 1)) : k0_cond1 (coordsV c s) = 1#1 ↔ s.val = 0 := by
  revert c s; decide

/-- A subcore's program is the kernel's body at its coordinates. -/
theorem defs₀_vector (c : Fin τ.nSC) (s : Fin τ.nSub) :
    defs₀ (F := F) (.scVector c s) 0 ()
      = SparseCore.onTile hcore0 hsub0 (fun c s => cc0__sc_loss (coordsV c s) pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0) ⟨⟩ c s := rfl

/-- A body that adds only unnamed waits meets the weaker condition on waits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A subcore off the condition does nothing. -/
theorem idle_body (d : Dev nD) (L : grid0.Coords) (h1 : ¬ k0_cond1 L = 1#1) (O : CellTallies nD τ sig (HIx 1)) (W : Waits sig (HIx 1)) :
    iprop(levAts (K (F := F)).L (K (F := F)).lev ∗ emp ∗ emp ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ (cc0__sc_loss L pV (Memref.isWhole_whole _) lV (Memref.isWhole_whole _) oV (Memref.isWhole_whole _) psV (Memref.isWhole_whole _) lsV (Memref.isWhole_whole _) msV (Memref.isWhole_whole _) osV (Memref.isWhole_whole _) cc0_scratch4 cc0_scratch5 cc0_scoped0) fun _ => iprop(
        emp ∗ scopedBufs (V d (cV L) (jV L)) ∗ scopedSems0 (V d (cV L) (jV L))
          ∗ ∃ W', ⌜∀ q ∈ W', q ∈ W ∨ q.2 = none⌝ ∗ owes (V d (cV L) (jV L)) O W') : sProp 𝕄) := by
  simp only [cc0__sc_loss_eq_skeleton]
  unfold cc0__sc_loss_skel
  rw [dif_neg h1]
  iintro ⟨-, -, -, Hb, Hs, HO⟩
  simp only [wp_pure]
  imodintro
  isplitr; · iempintro
  isplitl [Hb]; · iexact Hb
  isplitl [Hs]; · iexact Hs
  iexists W; isplitr
  · ipureintro; exact fun _ h => Or.inl h
  · iexact HO

set_option maxRecDepth 16384 in
/-- Every subcore runs its body from what it takes to what it brings back. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases hi : Fin.cast nSub_zero i = (0 : Fin 16)
  · have h1 : k0_cond1 (coordsV ⟨_, hci.1⟩ ⟨_, hci.2⟩) = 1#1 := (cond1_iff _ _).2 (congrArg Fin.val hi)
    have hg : (P m).go 0 d c i = taken3 m d (m (oLoc d)) := if_pos hi
    have ht : (P m).td 0 d c i = left3 m d := if_pos hi
    rw [hg, ht]
    exact (tile_body d (coordsV ⟨_, hci.1⟩ ⟨_, hci.2⟩) h1 hF O W hO (pAt m d) (lAt m d) (m (oLoc d))).trans (wp_mono frame _ _ fun _ => obl_post)
  · have h1 : ¬ k0_cond1 (coordsV ⟨_, hci.1⟩ ⟨_, hci.2⟩) = 1#1 := fun h => hi (Fin.ext ((cond1_iff _ _).1 h))
    have hg : (P m).go 0 d c i = iprop(emp) := if_neg hi
    have ht : (P m).td 0 d c i = iprop(emp) := if_neg hi
    rw [hg, ht]
    exact (idle_body d (coordsV ⟨_, hci.1⟩ ⟨_, hci.2⟩) h1 O W).trans (wp_mono frame _ _ fun _ => obl_post)

/-! ## The call's operands to the subcores and back -/

/-- A family over the call's subcores is a family over the sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- Nothing, any number of times, is nothing. -/
theorem bigSep_emp' {I : Type} (s : Finset I) : (bigSep s fun _ => iprop(emp)) = (iprop(emp) : sProp 𝕄) := bigSep_emp_const s

/-- A family that is empty off subcore 0 is its member there. -/
theorem bigSep_zero (Φ : sProp 𝕄) : (bigSep Finset.univ fun i : Fin 16 => if i = 0 then Φ else iprop(emp)) = iprop(Φ ∗ emp) := by
  rw [SparseCore.bigSep_erase' (Finset.mem_univ (0 : Fin 16)), if_pos rfl]
  congr 1
  rw [bigSep_congr (Ψ := fun _ => iprop(emp)) fun i hi => if_neg (Finset.ne_of_mem_erase hi), bigSep_emp']

/-- The call's operands split among the subcores and come back together. -/
theorem vecSplit : (K (F := F)).VecSplit' (P m) 0 := by
  intro d c
  show taken3 m d (m (oLoc d)) ⊢ |={Set.univ}=> iprop(
      (bigSep Finset.univ fun i : Fin ((K (F := F)).nSub 0) => goes m d (Fin.cast nSub_zero i))
      ∗ ((bigSep Finset.univ fun i : Fin ((K (F := F)).nSub 0) => comes m d (Fin.cast nSub_zero i)) -∗ left3 m d))
  rw [bigSep_tasks (F := F) (goes m d), bigSep_tasks (F := F) (comes m d)]
  unfold goes comes
  rw [bigSep_zero, bigSep_zero]
  iintro H; imodintro
  isplitl [H]
  · isplitl [H]
    · iexact H
    · iempintro
  iintro ⟨H, -⟩
  iexact H

/-! ## The launch element of the ghost state -/

def u₀ : UU := (initOf (K (F := F)).hsCells (K (F := F)).hsToks, 1)

/-- The launch's ghost element gives the handshakes' cells. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's program -/

/-- What the call starts with, over its one core. -/
theorem st0_eq (d : Dev nD) : (bigSep Finset.univ fun c : Fin ((K (F := F)).nCore 0) => (P m).st 0 d c) = taken3 m d (m (oLoc d)) :=
  bigSep_univ_of_subsingleton (0 : Fin 1)
/-- What the call ends with, over its one core. -/
theorem dn0_eq (d : Dev nD) : (bigSep Finset.univ fun c : Fin ((K (F := F)).nCore 0) => (P m).dn 0 d c) = left3 m d :=
  bigSep_univ_of_subsingleton (0 : Fin 1)

/-- The arrays after the flattenings: the call's three, the other four. -/
theorem held_W2 (d : Dev nD) :
    (held (T d) S7 (W2 m d) : sProp 𝕄) = iprop(((SparseCore.T d).loc main_arg0 ↦{fullShare} W2 m d a0') ∗ ((SparseCore.T d).loc main_arg1 ↦{fullShare} W2 m d a1')
      ∗ (pLoc d ↦{fullShare} pAt m d) ∗ (lLoc d ↦{fullShare} lAt m d) ∗ (oLoc d ↦{fullShare} m (oLoc d))
      ∗ ((SparseCore.T d).loc main_v3 ↦{fullShare} W2 m d v3') ∗ (SparseCore.T d).loc main_v4 ↦{fullShare} W2 m d v4') := by
  rw [held_S7, W2_v0, W2_v1, W2_of m d v2' (by decide) (by decide)]
/-- The seven arrays after the call. -/
theorem held_W3 (d : Dev nD) (o : FVec F S16 .f32) :
    (held (T d) S7 (W3 m d o) : sProp 𝕄) = iprop(((SparseCore.T d).loc main_arg0 ↦{fullShare} W2 m d a0') ∗ ((SparseCore.T d).loc main_arg1 ↦{fullShare} W2 m d a1')
      ∗ (pLoc d ↦{fullShare} pAt m d) ∗ (lLoc d ↦{fullShare} lAt m d) ∗ (oLoc d ↦{fullShare} o)
      ∗ ((SparseCore.T d).loc main_v3 ↦{fullShare} W2 m d v3') ∗ (SparseCore.T d).loc main_v4 ↦{fullShare} W2 m d v4') := by
  have h : ∀ b, b ≠ v2' → W3 m d o b = W2 m d b := fun b hb => Function.update_of_ne hb _ _
  have h2 : W3 m d o v2' = o := Function.update_self _ _ _
  rw [held_S7, h a0' (by decide), h a1' (by decide), h v0' (by decide), h v1' (by decide), h2, h v3' (by decide), h v4' (by decide), W2_v0, W2_v1]
/-- The seven arrays at the end. -/
theorem held_W5 (d : Dev nD) (o : FVec F S16 .f32) :
    (held (T d) S7 (W5 m d o) : sProp 𝕄) = iprop(((SparseCore.T d).loc main_arg0 ↦{fullShare} m ((SparseCore.T d).loc main_arg0))
      ∗ ((SparseCore.T d).loc main_arg1 ↦{fullShare} m ((SparseCore.T d).loc main_arg1))
      ∗ (pLoc d ↦{fullShare} W5 m d o v0') ∗ (lLoc d ↦{fullShare} W5 m d o v1') ∗ (oLoc d ↦{fullShare} W5 m d o v2')
      ∗ ((SparseCore.T d).loc main_v3 ↦{fullShare} W5 m d o v3') ∗ (SparseCore.T d).loc main_v4 ↦{fullShare} scalarOf o) := by
  rw [held_S7, W5_v4, W5_of m d o a0' (by decide) (by decide) (by decide) (by decide) (by decide), W5_of m d o a1' (by decide) (by decide) (by decide) (by decide) (by decide)]

/-- The first flattening touches only the seven arrays. -/
theorem hflatP : (flatP (F := F)).bufs ⊆ S7 := by rw [StableHlo.reshape_bufs]; decide
/-- The second flattening touches only the seven arrays. -/
theorem hflatL : (flatL (F := F)).bufs ⊆ S7 := by rw [StableHlo.reshape_bufs]; decide
/-- Taking the first lane touches only the seven arrays. -/
theorem hfirst : (firstLane (F := F)).bufs ⊆ S7 := by rw [StableHlo.unary_bufs]; decide
/-- The last reshape touches only the seven arrays. -/
theorem hscalar : (asScalar (F := F)).bufs ⊆ S7 := by rw [StableHlo.reshape_bufs]; decide

/-- What @main leaves the claim: the arguments as they were, the result at the first lane of the output vector. -/
abbrev FIN (d : Dev nD) : sProp 𝕄 := iprop(((SparseCore.T d).loc main_arg0 ↦{fullShare} m ((SparseCore.T d).loc main_arg0))
  ∗ ((SparseCore.T d).loc main_arg1 ↦{fullShare} m ((SparseCore.T d).loc main_arg1))
  ∗ ∃ fs, ∃ ls, (SparseCore.T d).loc main_v4 ↦{fullShare} scalarOf (outVec (predScratch fs (pAt m d)) (labScratch ls (lAt m d))))

/-- The host program runs from the seven arrays at the launch to the seven arrays at the end. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := flatP) (S := S7) hflatP (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := flatL) (S := S7) hflatL (V := (flatP (F := F)).result (W0 m d))) $$ [Hb Hheld]
  · isplitl [Hb]; · iexact Hb
    iexact Hheld
  iintro ⟨Hb, Hheld⟩
  rw [wp_ret]; imodintro
  ihave Hh := (show (held (T d) S7 ((flatL (F := F)).result ((flatP (F := F)).result (W0 m d))) : sProp 𝕄) ⊢ _ from Entails.of_eq (held_W2 (F := F) m d)) $$ Hheld
  icases Hh with ⟨Ha0, Ha1, Hp, Hl, Ho, H3, H4⟩
  iapply ((K (F := F)).wp_run (D (F := F)) 𝒱 (EH := EH) (P := P m) κ d 0) $$ [Hst Hp Hl Ho Hb Ha0 Ha1 H3 H4 Hts]
  isplitr; · iexact Hctx
  isplitl [Hst]; · iexact Hst
  isplitl [Hp Hl Ho]
  · rw [st0_eq]
    isplitl [Hp]; · iexact Hp
    isplitl [Hl]; · iexact Hl
    iexact Ho
  iintro ⟨Hst, Hdn⟩
  ihave Hdn' := (Entails.of_eq (dn0_eq m d)) $$ Hdn
  icases Hdn' with ⟨Hp, Hl, %fs, %ls, Ho⟩
  iapply (wp_hlo_within 𝒱 (SparseCore.T d) none Set.univ (op := firstLane) (S := S7) hfirst
    (V := W3 m d (outVec (predScratch fs (pAt m d)) (labScratch ls (lAt m d))))) $$ [Hb Hp Hl Ho Ha0 Ha1 H3 H4]
  · isplitl [Hb]; · iexact Hb
    rw [held_W3]
    isplitl [Ha0]; · iexact Ha0
    isplitl [Ha1]; · iexact Ha1
    isplitl [Hp]; · iexact Hp
    isplitl [Hl]; · iexact Hl
    isplitl [Ho]; · iexact Ho
    isplitl [H3]; · iexact H3
    iexact H4
  iintro ⟨Hb, Hheld⟩
  rw [wp_ret]; imodintro
  iapply (wp_hlo_within 𝒱 (SparseCore.T d) none Set.univ (op := asScalar) (S := S7) hscalar
    (V := (firstLane (F := F)).result (W3 m d (outVec (predScratch fs (pAt m d)) (labScratch ls (lAt m d)))))) $$ [Hb Hheld]
  · isplitl [Hb]; · iexact Hb
    iexact Hheld
  iintro ⟨Hb, Hheld⟩
  ihave Hh := (show (held (T d) S7 ((asScalar (F := F)).result ((firstLane (F := F)).result (W3 m d (outVec (predScratch fs (pAt m d)) (labScratch ls (lAt m d)))))) : sProp 𝕄) ⊢ _
    from Entails.of_eq (held_W5 (F := F) m d (outVec (predScratch fs (pAt m d)) (labScratch ls (lAt m d))))) $$ Hheld
  icases Hh with ⟨Ha0, Ha1, -, -, -, -, H4⟩
  rw [wp_ret]; imodintro; imodintro
  isplitl [Hst]; · iexact Hst
  isplitr [Hb Hts]
  · isplitl [Ha0]; · iexact Ha0
    isplitl [Ha1]; · iexact Ha1
    iexists fs; iexists ls; iexact H4
  isplitl [Hb] <;> iassumption

/-- The fact the claim reads off device `d`'s final memory. -/
def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ ∃ fs ls, s'.mem.mem ((SparseCore.T d).loc main_v4) = scalarOf (outVec (predScratch fs (pAt m d)) (labScratch ls (lAt m d)))

set_option maxRecDepth 16384 in
/-- What the host program ends with fixes the final memory. -/
theorem hfin (d : Dev nD) (s' : Phys nD τ sig (Elt F)) : iprop(FIN m d ∗ SI s') ⊢ (⌜fq m d s'⌝ : sProp 𝕄) := by
  iintro ⟨⟨H0, H1, %fs, %ls, H4⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare)
    (f := m ((SparseCore.T d).loc main_arg1)))) $$ [HSI H1]
  · isplitl [HSI] <;> iassumption
  icases H with ⟨%h1, HSI, -⟩
  ihave H := (SI_pointsTo_agree (st := s') (ℓ := (SparseCore.T d).loc main_v4) (I := Finset.univ) (q := fullShare)
    (f := scalarOf (outVec (predScratch fs (pAt m d)) (labScratch ls (lAt m d))))) $$ [HSI H4]
  · isplitl [HSI] <;> iassumption
  icases H with %h4
  ipureintro
  exact ⟨funext fun i => h0 i (Finset.mem_univ i), funext fun i => h1 i (Finset.mem_univ i), fs, ls, funext fun i => h4 i (Finset.mem_univ i)⟩

/-! ## The program's run -/

/-- Every device's arguments as they were, its result the first lane of the output vector, every semaphore at zero. -/
def QC : PUnit × MemSt nD τ sig (Elt F) → Prop := fun r =>
  (∀ c : Dev nD, r.2.mem ((SparseCore.T c).loc main_arg0) = m ((SparseCore.T c).loc main_arg0)
    ∧ r.2.mem ((SparseCore.T c).loc main_arg1) = m ((SparseCore.T c).loc main_arg1)
    ∧ ∃ fs ls, r.2.mem ((SparseCore.T c).loc main_v4) = scalarOf (outVec (predScratch fs (pAt m c)) (labScratch ls (lAt m c))))
  ∧ r.2.sem = fun _ => 0

/-- Every weakly fair execution of the kernel's program ends as `QC` says. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Kern

end
-- ==== Proof.RefRun.lean ====
/-
  The run of the reference program: a straight line of host operations, cut into six stretches — the cost matrix, each
  row's first minimum, the predictions taken there, the summed pair loss, the mask of the paired predictions, and the
  loss — each with the value its last buffer holds as a function of the buffers it reads. Together they give what the
  result buffer holds at the end of every execution (`run_main`), as a function of the two arguments.
-/
module

public import proofs.«01_k».proof.Defs
public import Idealize.ShloMosaic.Lib.StableHlo.Run
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The values -/

set_option cleanup.letToHave false in set_option maxHeartbeats 4000000 in
/-- The reference's values up to the cost matrix, from what they are computed of. -/
def costs (arg0 : FVec F S20x4 .f32) (arg1 : FVec F S12x4 .f32) : FVec F S12x20 .f32 :=
  let v0 : FVec F S12x1 .f32 := extractStridedSlice S12x1 ![0, 0] arg1 slices_S12x4_S12x1_0_0
  let v1 : FVec F S12 .f32 := shapeCast S12 v0 shapeCasts_S12x1_S12
  let v2 : FVec F S12x1 .f32 := broadcastInDim S12x1 ![0] bcast_S12_S12x1_0 v1
  let v3 : FVec F S20x1 .f32 := extractStridedSlice S20x1 ![0, 0] arg0 slices_S20x4_S20x1_0_0
  let v4 : FVec F S20 .f32 := shapeCast S20 v3 shapeCasts_S20x1_S20
  let v5 : FVec F S1x20 .f32 := broadcastInDim S1x20 ![1] bcast_S20_S1x20_1 v4
  let v6 : FVec F S12x20 .f32 := broadcastInDim S12x20 ![0, 1] bcast_S12x1_S12x20_0_1 v2
  let v7 : FVec F S12x20 .f32 := broadcastInDim S12x20 ![0, 1] bcast_S1x20_S12x20_0_1 v5
  let v8 : FVec F S12x20 .f32 := subf v6 v7
  let v9 : FVec F S12x1 .f32 := extractStridedSlice S12x1 ![0, 1] arg1 slices_S12x4_S12x1_0_1
  let v10 : FVec F S12 .f32 := shapeCast S12 v9 shapeCasts_S12x1_S12
  let v11 : FVec F S12x1 .f32 := broadcastInDim S12x1 ![0] bcast_S12_S12x1_0 v10
  let v12 : FVec F S20x1 .f32 := extractStridedSlice S20x1 ![0, 1] arg0 slices_S20x4_S20x1_0_1
  let v13 : FVec F S20 .f32 := shapeCast S20 v12 shapeCasts_S20x1_S20
  let v14 : FVec F S1x20 .f32 := broadcastInDim S1x20 ![1] bcast_S20_S1x20_1 v13
  let v15 : FVec F S12x20 .f32 := broadcastInDim S12x20 ![0, 1] bcast_S12x1_S12x20_0_1 v11
  let v16 : FVec F S12x20 .f32 := broadcastInDim S12x20 ![0, 1] bcast_S1x20_S12x20_0_1 v14
  let v17 : FVec F S12x20 .f32 := subf v15 v16
  let v18 : FVec F S12x20 .f32 := mulf v8 v8
  let v19 : FVec F S12x20 .f32 := mulf v17 v17
  let v20 : FVec F S12x20 .f32 := addf v18 v19
  let v21 : FVec F S12x20 .f32 := Host.sqrt v20
  let v22 : FVec F S12x1 .f32 := extractStridedSlice S12x1 ![0, 2] arg1 slices_S12x4_S12x1_0_2
  let v23 : FVec F S12 .f32 := shapeCast S12 v22 shapeCasts_S12x1_S12
  let v24 : FVec F S12x1 .f32 := broadcastInDim S12x1 ![0] bcast_S12_S12x1_0 v23
  let v25 : FVec F S20x1 .f32 := extractStridedSlice S20x1 ![0, 2] arg0 slices_S20x4_S20x1_0_2
  let v26 : FVec F S20 .f32 := shapeCast S20 v25 shapeCasts_S20x1_S20
  let v27 : FVec F S1x20 .f32 := broadcastInDim S1x20 ![1] bcast_S20_S1x20_1 v26
  let v28 : FVec F S12x20 .f32 := broadcastInDim S12x20 ![0, 1] bcast_S12x1_S12x20_0_1 v24
  let v29 : FVec F S12x20 .f32 := broadcastInDim S12x20 ![0, 1] bcast_S1x20_S12x20_0_1 v27
  let v30 : FVec F S12x20 .f32 := subf v28 v29
  let v31 : FVec F S12x20 .f32 := Host.absf v30
  let cst : FVec F S_ .f32 := constant S_ .f32 0x3F000000#32
  let v32 : FVec F S12x20 .f32 := broadcastInDim S12x20 ![] bcast_S_S12x20 cst
  let v33 : FVec F S12x20 .f32 := mulf v32 v21
  let cst_0 : FVec F S_ .f32 := constant S_ .f32 0x3F000000#32
  let v34 : FVec F S12x20 .f32 := broadcastInDim S12x20 ![] bcast_S_S12x20 cst_0
  let v35 : FVec F S12x20 .f32 := mulf v34 v31
  addf v33 v35

/-- The reference's values up to the first minimum of each row, from what they are computed of. -/
def firstMin (v36 : FVec F S12x20 .f32) : IVec S12 32 :=
  let m_v0 : IVec S12x20 32 := iotaInDim S12x20 32 1
  let m_cst : FVec F S_ .f32 := constant S_ .f32 0x7F800000#32
  let m_c : IVec S_ 32 := constantI S_ 32 0#32
  fun j => (Host.argReduce reducer_argmin_f32_i32 v36 m_v0 m_cst m_c reducesTo_S12x20_S12_d1 h_S_ j).2

set_option cleanup.letToHave false in set_option maxHeartbeats 4000000 in
/-- The reference's values up to the predictions taken at the paired indices, from what they are computed of. -/
def taken (arg0 : FVec F S20x4 .f32) (v37 : IVec S12 32) : FVec F S12x4 .f32 :=
  let t_c : IVec S_ 32 := constantI S_ 32 0#32
  let t_v0 : IVec S12 32 := broadcastInDim S12 ![] bcast_S_S12 t_c
  let t_v1 : IVec S12 1 := cmpi .slt v37 t_v0
  let t_c_0 : IVec S_ 32 := constantI S_ 32 20#32
  let t_v2 : IVec S12 32 := broadcastInDim S12 ![] bcast_S_S12 t_c_0
  let t_v3 : IVec S12 32 := addi v37 t_v2
  let t_v4 : IVec S12 32 := select t_v1 t_v3 v37
  let t_v5 : IVec S12x1 32 := broadcastInDim S12x1 ![0] bcast_S12_S12x1_0 t_v4
  let t_c_1 : IVec S1 32 := constantI S1 32 19#32
  let t_c_2 : IVec S_ 32 := constantI S_ 32 0#32
  let t_v6 : IVec S12x1 32 := broadcastInDim S12x1 ![] bcast_S_S12x1 t_c_2
  let t_v7 : IVec S12x1 1 := cmpi .sge t_v5 t_v6
  let t_v8 : IVec S1x1 32 := broadcastInDim S1x1 ![1] bcast_S1_S1x1_1 t_c_1
  let t_v9 : IVec S12x1 32 := broadcastInDim S12x1 ![0, 1] bcast_S1x1_S12x1_0_1 t_v8
  let t_v10 : IVec S12x1 1 := cmpi .sle t_v5 t_v9
  let t_v11 : IVec S12x1 1 := andi t_v7 t_v10
  let t_c_3 : IVec S_ 1 := constantI S_ 1 1#1
  let t_v12 : IVec S12 1 := Host.reduce IntOp.andi t_v11 t_c_3 reducesTo_S12x1_S12_d1 h_S_
  let t_v13 : FVec F S12x4 .f32 := Host.gather gather_S20x4_S12x1_S12x4_1_0_n_n_0_1_14 arg0 t_v5
  let t_v14 : IVec S12x4 1 := broadcastInDim S12x4 ![0] bcast_S12_S12x4_0 t_v12
  let t_cst : FVec F S_ .f32 := constant S_ .f32 0x7FC00000#32
  let t_v15 : FVec F S12x4 .f32 := broadcastInDim S12x4 ![] bcast_S_S12x4 t_cst
  select t_v14 t_v13 t_v15

set_option cleanup.letToHave false in set_option maxHeartbeats 4000000 in
/-- The reference's values up to the summed pair loss, from what they are computed of. -/
def pairLoss (arg1 : FVec F S12x4 .f32) (v38 : FVec F S12x4 .f32) : FVec F S_ .f32 :=
  let v39 : FVec F S12x1 .f32 := extractStridedSlice S12x1 ![0, 0] arg1 slices_S12x4_S12x1_0_0
  let v40 : FVec F S12 .f32 := shapeCast S12 v39 shapeCasts_S12x1_S12
  let v41 : FVec F S12x1 .f32 := extractStridedSlice S12x1 ![0, 0] v38 slices_S12x4_S12x1_0_0
  let v42 : FVec F S12 .f32 := shapeCast S12 v41 shapeCasts_S12x1_S12
  let v43 : FVec F S12 .f32 := subf v40 v42
  let v44 : FVec F S12 .f32 := mulf v43 v43
  let v45 : FVec F S12x1 .f32 := extractStridedSlice S12x1 ![0, 1] arg1 slices_S12x4_S12x1_0_1
  let v46 : FVec F S12 .f32 := shapeCast S12 v45 shapeCasts_S12x1_S12
  let v47 : FVec F S12x1 .f32 := extractStridedSlice S12x1 ![0, 1] v38 slices_S12x4_S12x1_0_1
  let v48 : FVec F S12 .f32 := shapeCast S12 v47 shapeCasts_S12x1_S12
  let v49 : FVec F S12 .f32 := subf v46 v48
  let v50 : FVec F S12 .f32 := mulf v49 v49
  let v51 : FVec F S12 .f32 := addf v44 v50
  let v52 : FVec F S12 .f32 := Host.sqrt v51
  let v53 : FVec F S12x1 .f32 := extractStridedSlice S12x1 ![0, 2] arg1 slices_S12x4_S12x1_0_2
  let v54 : FVec F S12 .f32 := shapeCast S12 v53 shapeCasts_S12x1_S12
  let v55 : FVec F S12x1 .f32 := extractStridedSlice S12x1 ![0, 2] v38 slices_S12x4_S12x1_0_2
  let v56 : FVec F S12 .f32 := shapeCast S12 v55 shapeCasts_S12x1_S12
  let v57 : FVec F S12 .f32 := subf v54 v56
  let v58 : FVec F S12 .f32 := Host.absf v57
  let v59 : FVec F S12x1 .f32 := extractStridedSlice S12x1 ![0, 3] v38 slices_S12x4_S12x1_0_3
  let v60 : FVec F S12 .f32 := shapeCast S12 v59 shapeCasts_S12x1_S12
  let cst_1 : FVec F S_ .f32 := constant S_ .f32 0x358637BD#32
  let v61 : FVec F S12 .f32 := broadcastInDim S12 ![] bcast_S_S12 cst_1
  let v62 : FVec F S12 .f32 := addf v60 v61
  let v63 : FVec F S12 .f32 := Host.log v62
  let cst_2 : FVec F S_ .f32 := constant S_ .f32 0xBF800000#32
  let v64 : FVec F S12 .f32 := broadcastInDim S12 ![] bcast_S_S12 cst_2
  let v65 : FVec F S12 .f32 := mulf v64 v63
  let cst_3 : FVec F S_ .f32 := constant S_ .f32 0x3F800000#32
  let v66 : FVec F S12 .f32 := broadcastInDim S12 ![] bcast_S_S12 cst_3
  let v67 : FVec F S12 .f32 := subf v66 v60
  let cst_4 : FVec F S_ .f32 := constant S_ .f32 0x358637BD#32
  let v68 : FVec F S12 .f32 := broadcastInDim S12 ![] bcast_S_S12 cst_4
  let v69 : FVec F S12 .f32 := addf v67 v68
  let v70 : FVec F S12 .f32 := Host.log v69
  let cst_5 : FVec F S_ .f32 := constant S_ .f32 0x00000000#32
  let v71 : FVec F S12 .f32 := broadcastInDim S12 ![] bcast_S_S12 cst_5
  let v72 : FVec F S12 .f32 := mulf v71 v70
  let v73 : FVec F S12 .f32 := subf v65 v72
  let cst_6 : FVec F S_ .f32 := constant S_ .f32 0x3F000000#32
  let v74 : FVec F S12 .f32 := broadcastInDim S12 ![] bcast_S_S12 cst_6
  let v75 : FVec F S12 .f32 := mulf v74 v52
  let cst_7 : FVec F S_ .f32 := constant S_ .f32 0x3F000000#32
  let v76 : FVec F S12 .f32 := broadcastInDim S12 ![] bcast_S_S12 cst_7
  let v77 : FVec F S12 .f32 := mulf v76 v58
  let v78 : FVec F S12 .f32 := addf v75 v77
  let v79 : FVec F S12 .f32 := addf v78 v73
  let cst_8 : FVec F S_ .f32 := constant S_ .f32 0x00000000#32
  Host.reduceAdd v79 cst_8 reducesTo_S12_S_d0 h_S_

/-- The reference's values up to the mask of paired predictions, from what they are computed of. -/
def pairMask (v37 : IVec S12 32) : FVec F S20 .f32 :=
  let cst_9 : FVec F S_ .f32 := constant S_ .f32 0x00000000#32
  let v81 : FVec F S20 .f32 := broadcastInDim S20 ![] bcast_S_S20 cst_9
  let c : IVec S_ 32 := constantI S_ 32 0#32
  let v82 : IVec S12 32 := broadcastInDim S12 ![] bcast_S_S12 c
  let v83 : IVec S12 1 := cmpi .slt v37 v82
  let c_10 : IVec S_ 32 := constantI S_ 32 20#32
  let v84 : IVec S12 32 := broadcastInDim S12 ![] bcast_S_S12 c_10
  let v85 : IVec S12 32 := addi v37 v84
  let v86 : IVec S12 32 := select v83 v85 v37
  let v87 : IVec S12x1 32 := broadcastInDim S12x1 ![0] bcast_S12_S12x1_0 v86
  let cst_11 : FVec F S_ .f32 := constant S_ .f32 0x3F800000#32
  let v88 : FVec F S12 .f32 := broadcastInDim S12 ![] bcast_S_S12 cst_11
  Host.scatter scatter_S20_S12x1_S12_n_0_0_1 (fun _ b => b) v81 v87 v88

set_option cleanup.letToHave false in set_option maxHeartbeats 4000000 in
/-- The reference's values up to the loss from the pair loss and the mask, from what they are computed of. -/
def total (arg0 : FVec F S20x4 .f32) (v80 : FVec F S_ .f32) (v89 : FVec F S20 .f32) : FVec F S_ .f32 :=
  let v90 : FVec F S20x1 .f32 := extractStridedSlice S20x1 ![0, 3] arg0 slices_S20x4_S20x1_0_3
  let v91 : FVec F S20 .f32 := shapeCast S20 v90 shapeCasts_S20x1_S20
  let cst_12 : FVec F S_ .f32 := constant S_ .f32 0x358637BD#32
  let v92 : FVec F S20 .f32 := broadcastInDim S20 ![] bcast_S_S20 cst_12
  let v93 : FVec F S20 .f32 := addf v91 v92
  let v94 : FVec F S20 .f32 := Host.log v93
  let cst_13 : FVec F S_ .f32 := constant S_ .f32 0x80000000#32
  let v95 : FVec F S20 .f32 := broadcastInDim S20 ![] bcast_S_S20 cst_13
  let v96 : FVec F S20 .f32 := mulf v95 v94
  let cst_14 : FVec F S_ .f32 := constant S_ .f32 0x3F800000#32
  let v97 : FVec F S20 .f32 := broadcastInDim S20 ![] bcast_S_S20 cst_14
  let v98 : FVec F S20 .f32 := subf v97 v91
  let cst_15 : FVec F S_ .f32 := constant S_ .f32 0x358637BD#32
  let v99 : FVec F S20 .f32 := broadcastInDim S20 ![] bcast_S_S20 cst_15
  let v100 : FVec F S20 .f32 := addf v98 v99
  let v101 : FVec F S20 .f32 := Host.log v100
  let cst_16 : FVec F S_ .f32 := constant S_ .f32 0x3F800000#32
  let v102 : FVec F S20 .f32 := broadcastInDim S20 ![] bcast_S_S20 cst_16
  let v103 : FVec F S20 .f32 := mulf v102 v101
  let v104 : FVec F S20 .f32 := subf v96 v103
  let v105 : FVec F S20x1 .f32 := extractStridedSlice S20x1 ![0, 2] arg0 slices_S20x4_S20x1_0_2
  let v106 : FVec F S20 .f32 := shapeCast S20 v105 shapeCasts_S20x1_S20
  let cst_17 : FVec F S_ .f32 := constant S_ .f32 0x3F000000#32
  let v107 : FVec F S20 .f32 := broadcastInDim S20 ![] bcast_S_S20 cst_17
  let v108 : FVec F S20 .f32 := mulf v107 v106
  let v109 : FVec F S20 .f32 := addf v104 v108
  let cst_18 : FVec F S_ .f32 := constant S_ .f32 0x3F000000#32
  let v110 : FVec F S20 .f32 := broadcastInDim S20 ![] bcast_S_S20 cst_18
  let v111 : FVec F S20 .f32 := mulf v109 v110
  let cst_19 : FVec F S_ .f32 := constant S_ .f32 0x00000000#32
  let v112 : FVec F S20 .f32 := broadcastInDim S20 ![] bcast_S_S20 cst_19
  let v113 : IVec S20 1 := cmpf .oeq v89 v112
  let cst_20 : FVec F S_ .f32 := constant S_ .f32 0x00000000#32
  let v114 : FVec F S20 .f32 := broadcastInDim S20 ![] bcast_S_S20 cst_20
  let v115 : FVec F S20 .f32 := select v113 v111 v114
  let cst_21 : FVec F S_ .f32 := constant S_ .f32 0x00000000#32
  let v116 : FVec F S_ .f32 := Host.reduceAdd v115 cst_21 reducesTo_S20_S_d0 h_S_
  let cst_22 : FVec F S_ .f32 := constant S_ .f32 0x41400000#32
  let v117 : FVec F S_ .f32 := Host.divf v80 cst_22
  let cst_23 : FVec F S_ .f32 := constant S_ .f32 0x41000000#32
  let v118 : FVec F S_ .f32 := Host.divf v116 cst_23
  addf v117 v118

/-! ## The operations -/

/-- The operations of @main that compute the cost matrix. -/
abbrev costOps : List (HloOp τ sig (Elt F)) :=
  [ unary main_arg1 main_v0 (extractStridedSlice S12x1 ![0, 0] · slices_S12x4_S12x1_0_0),
    reshape main_v0 main_v1 (rfl : (.f32 : EltTy) = .f32) shapeCasts_S12x1_S12,
    unary main_v1 main_v2 (broadcastInDim S12x1 ![0] bcast_S12_S12x1_0),
    unary main_arg0 main_v3 (extractStridedSlice S20x1 ![0, 0] · slices_S20x4_S20x1_0_0),
    reshape main_v3 main_v4 (rfl : (.f32 : EltTy) = .f32) shapeCasts_S20x1_S20,
    unary main_v4 main_v5 (broadcastInDim S1x20 ![1] bcast_S20_S1x20_1),
    unary main_v2 main_v6 (broadcastInDim S12x20 ![0, 1] bcast_S12x1_S12x20_0_1),
    unary main_v5 main_v7 (broadcastInDim S12x20 ![0, 1] bcast_S1x20_S12x20_0_1),
    binary main_v6 main_v7 main_v8 (subf),
    unary main_arg1 main_v9 (extractStridedSlice S12x1 ![0, 1] · slices_S12x4_S12x1_0_1),
    reshape main_v9 main_v10 (rfl : (.f32 : EltTy) = .f32) shapeCasts_S12x1_S12,
    unary main_v10 main_v11 (broadcastInDim S12x1 ![0] bcast_S12_S12x1_0),
    unary main_arg0 main_v12 (extractStridedSlice S20x1 ![0, 1] · slices_S20x4_S20x1_0_1),
    reshape main_v12 main_v13 (rfl : (.f32 : EltTy) = .f32) shapeCasts_S20x1_S20,
    unary main_v13 main_v14 (broadcastInDim S1x20 ![1] bcast_S20_S1x20_1),
    unary main_v11 main_v15 (broadcastInDim S12x20 ![0, 1] bcast_S12x1_S12x20_0_1),
    unary main_v14 main_v16 (broadcastInDim S12x20 ![0, 1] bcast_S1x20_S12x20_0_1),
    binary main_v15 main_v16 main_v17 (subf),
    binary main_v8 main_v8 main_v18 (mulf),
    binary main_v17 main_v17 main_v19 (mulf),
    binary main_v18 main_v19 main_v20 (addf),
    unary main_v20 main_v21 (Host.sqrt),
    unary main_arg1 main_v22 (extractStridedSlice S12x1 ![0, 2] · slices_S12x4_S12x1_0_2),
    reshape main_v22 main_v23 (rfl : (.f32 : EltTy) = .f32) shapeCasts_S12x1_S12,
    unary main_v23 main_v24 (broadcastInDim S12x1 ![0] bcast_S12_S12x1_0),
    unary main_arg0 main_v25 (extractStridedSlice S20x1 ![0, 2] · slices_S20x4_S20x1_0_2),
    reshape main_v25 main_v26 (rfl : (.f32 : EltTy) = .f32) shapeCasts_S20x1_S20,
    unary main_v26 main_v27 (broadcastInDim S1x20 ![1] bcast_S20_S1x20_1),
    unary main_v24 main_v28 (broadcastInDim S12x20 ![0, 1] bcast_S12x1_S12x20_0_1),
    unary main_v27 main_v29 (broadcastInDim S12x20 ![0, 1] bcast_S1x20_S12x20_0_1),
    binary main_v28 main_v29 main_v30 (subf),
    unary main_v30 main_v31 (Host.absf),
    nullary main_cst (constant S_ .f32 0x3F000000#32),
    unary main_cst main_v32 (broadcastInDim S12x20 ![] bcast_S_S12x20),
    binary main_v32 main_v21 main_v33 (mulf),
    nullary main_cst_0 (constant S_ .f32 0x3F000000#32),
    unary main_cst_0 main_v34 (broadcastInDim S12x20 ![] bcast_S_S12x20),
    binary main_v34 main_v31 main_v35 (mulf),
    binary main_v33 main_v35 main_v36 (addf) ]

/-- The operations of this stage touch only the arrays of the TensorCore. -/
theorem costOps_sub : (costOps : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., binary_bufs_sub .., binary_bufs_sub .., binary_bufs_sub .., unary_bufs_sub .., unary_bufs_sub .., reshape_bufs_sub .., unary_bufs_sub .., unary_bufs_sub .., reshape_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub ..⟩

/-- What the cost matrix are after these operations. -/
theorem costOps_val (V : Valuation τ sig (Elt F)) :
    after costOps V (main_v36 : DevRef τ sig) = costs (V (main_arg0 : DevRef τ sig)) (V (main_arg1 : DevRef τ sig)) := by
  after_results_simp
  rfl

/-- The references these operations write. -/
abbrev costOps_out : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_cst, main_v32, main_v33, main_cst_0, main_v34, main_v35, main_v36]

/-- This stage leaves every array that it does not write as it was. -/
theorem costOps_keep (V : Valuation τ sig (Elt F)) {r : Ref sig .tc} (h : r ∉ costOps_out) :
    after costOps V (r : DevRef τ sig) = V (r : DevRef τ sig) :=
  after_of_writes_sub costOps V (forall_writes_sub_of_map rfl) h

/-- The operations of @main that compute the first minimum of each row. -/
abbrev argminOps : List (HloOp τ sig (Elt F)) :=
  [ nullary main_call0_v0 (iotaInDim S12x20 32 1),
    nullary main_call0_cst (constant S_ .f32 0x7F800000#32),
    nullary main_call0_c (constantI S_ 32 0#32),
    quaternary main_v36 main_call0_v0 main_call0_cst main_call0_c main_call0_v1_0 (fun x y u v j => (Host.argReduce reducer_argmin_f32_i32 x y u v reducesTo_S12x20_S12_d1 h_S_ j).1),
    quaternary main_v36 main_call0_v0 main_call0_cst main_call0_c main_v37 (fun x y u v j => (Host.argReduce reducer_argmin_f32_i32 x y u v reducesTo_S12x20_S12_d1 h_S_ j).2) ]

/-- The operations of this stage touch only the arrays of the TensorCore. -/
theorem argminOps_sub : (argminOps : List (HloOp τ sig (Elt F))).Forall fun op => op.bufs ⊆ tcRefs τ sig :=
  ⟨nullary_bufs_sub .., nullary_bufs_sub .., nullary_bufs_sub .., quaternary_bufs_sub .., quaternary_bufs_sub ..⟩

/-- What the first minimum of each row are after these operations. -/
theorem argminOps_val (V : Valuation τ sig (Elt F)) :
    after argminOps V (main_v37 : DevRef τ sig) = firstMin (V (main_v36 : DevRef τ sig)) := by
  after_results_simp
  rfl

/-- The references these operations write. -/
abbrev argminOps_out : List (Ref sig .tc) := [main_call0_v0, main_call0_cst, main_call0_c, main_call0_v1_0, main_v37]

/-- This stage leaves every array that it does not write as it was. -/
theorem argminOps_keep (V : Valuation τ sig (Elt F)) {r : Ref sig .tc} (h : r ∉ argminOps_out) :
    after argminOps V (r : DevRef τ sig) = V (r : DevRef τ sig) :=
  after_of_writes_sub argminOps V (forall_writes_sub_of_map rfl) h

/-- The operations of @main that compute the predictions taken at the paired indices. -/
abbrev takeOps : List (HloOp τ sig (Elt F)) :=
  [ nullary main_call1_c (constantI S_ 32 0#32),
    unary main_call1_c main_call1_v0 (broadcastInDim S12 ![] bcast_S_S12),
    binary main_v37 main_call1_v0 main_call1_v1 (cmpi .slt),
    nullary main_call1_c_0 (constantI S_ 32 20#32),
    unary main_call1_c_0 main_call1_v2 (broadcastInDim S12 ![] bcast_S_S12),
    binary main_v37 main_call1_v2 main_call1_v3 addi,
    ternary main_call1_v1 main_call1_v3 main_v37 main_call1_v4 select,
    unary main_call1_v4 main_call1_v5 (broadcastInDim S12x1 ![0] bcast_S12_S12x1_0),
    nullary main_call1_c_1 (constantI S1 32 19#32),
    nullary main_call1_c_2 (constantI S_ 32 0#32),
    unary main_call1_c_2 main_call1_v6 (broadcastInDim S12x1 ![] bcast_S_S12x1),
    binary main_call1_v5 main_call1_v6 main_call1_v7 (cmpi .sge),
    unary main_call1_c_1 main_call1_v8 (broadcastInDim S1x1 ![1] bcast_S1_S1x1_1),
    unary main_call1_v8 main_call1_v9 (broadcastInDim S12x1 ![0, 1] bcast_S1x1_S12x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S12x1_S12_d1 h_S_),
    binary main_arg0 main_call1_v5 main_call1_v13 (fun x i => Host.gather gather_S20x4_S12x1_S12x4_1_0_n_n_0_1_14 x i),
    unary main_call1_v12 main_call1_v14 (broadcastInDim S12x4 ![0] bcast_S12_S12x4_0),
    nullary main_call1_cst (constant S_ .f32 0x7FC00000#32),
    unary main_call1_cst main_call1_v15 (broadcastInDim S12x4 ![] bcast_S_S12x4),
    ternary main_call1_v14 main_call1_v13 main_call1_v15 main_v38 select ]

/-- The operations of this stage touch only the arrays of the TensorCore. -/
theorem takeOps_sub : (takeOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- What the predictions taken at the paired indices are after these operations. -/
theorem takeOps_val (V : Valuation τ sig (Elt F)) :
    after takeOps V (main_v38 : DevRef τ sig) = taken (V (main_arg0 : DevRef τ sig)) (V (main_v37 : DevRef τ sig)) := by
  after_results_simp
  rfl

/-- The references these operations write. -/
abbrev takeOps_out : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v38]

/-- This stage leaves every array that it does not write as it was. -/
theorem takeOps_keep (V : Valuation τ sig (Elt F)) {r : Ref sig .tc} (h : r ∉ takeOps_out) :
    after takeOps V (r : DevRef τ sig) = V (r : DevRef τ sig) :=
  after_of_writes_sub takeOps V (forall_writes_sub_of_map rfl) h

/-- The operations of @main that compute the summed pair loss. -/
abbrev pairOps : List (HloOp τ sig (Elt F)) :=
  [ unary main_arg1 main_v39 (extractStridedSlice S12x1 ![0, 0] · slices_S12x4_S12x1_0_0),
    reshape main_v39 main_v40 (rfl : (.f32 : EltTy) = .f32) shapeCasts_S12x1_S12,
    unary main_v38 main_v41 (extractStridedSlice S12x1 ![0, 0] · slices_S12x4_S12x1_0_0),
    reshape main_v41 main_v42 (rfl : (.f32 : EltTy) = .f32) shapeCasts_S12x1_S12,
    binary main_v40 main_v42 main_v43 (subf),
    binary main_v43 main_v43 main_v44 (mulf),
    unary main_arg1 main_v45 (extractStridedSlice S12x1 ![0, 1] · slices_S12x4_S12x1_0_1),
    reshape main_v45 main_v46 (rfl : (.f32 : EltTy) = .f32) shapeCasts_S12x1_S12,
    unary main_v38 main_v47 (extractStridedSlice S12x1 ![0, 1] · slices_S12x4_S12x1_0_1),
    reshape main_v47 main_v48 (rfl : (.f32 : EltTy) = .f32) shapeCasts_S12x1_S12,
    binary main_v46 main_v48 main_v49 (subf),
    binary main_v49 main_v49 main_v50 (mulf),
    binary main_v44 main_v50 main_v51 (addf),
    unary main_v51 main_v52 (Host.sqrt),
    unary main_arg1 main_v53 (extractStridedSlice S12x1 ![0, 2] · slices_S12x4_S12x1_0_2),
    reshape main_v53 main_v54 (rfl : (.f32 : EltTy) = .f32) shapeCasts_S12x1_S12,
    unary main_v38 main_v55 (extractStridedSlice S12x1 ![0, 2] · slices_S12x4_S12x1_0_2),
    reshape main_v55 main_v56 (rfl : (.f32 : EltTy) = .f32) shapeCasts_S12x1_S12,
    binary main_v54 main_v56 main_v57 (subf),
    unary main_v57 main_v58 (Host.absf),
    unary main_v38 main_v59 (extractStridedSlice S12x1 ![0, 3] · slices_S12x4_S12x1_0_3),
    reshape main_v59 main_v60 (rfl : (.f32 : EltTy) = .f32) shapeCasts_S12x1_S12,
    nullary main_cst_1 (constant S_ .f32 0x358637BD#32),
    unary main_cst_1 main_v61 (broadcastInDim S12 ![] bcast_S_S12),
    binary main_v60 main_v61 main_v62 (addf),
    unary main_v62 main_v63 (Host.log),
    nullary main_cst_2 (constant S_ .f32 0xBF800000#32),
    unary main_cst_2 main_v64 (broadcastInDim S12 ![] bcast_S_S12),
    binary main_v64 main_v63 main_v65 (mulf),
    nullary main_cst_3 (constant S_ .f32 0x3F800000#32),
    unary main_cst_3 main_v66 (broadcastInDim S12 ![] bcast_S_S12),
    binary main_v66 main_v60 main_v67 (subf),
    nullary main_cst_4 (constant S_ .f32 0x358637BD#32),
    unary main_cst_4 main_v68 (broadcastInDim S12 ![] bcast_S_S12),
    binary main_v67 main_v68 main_v69 (addf),
    unary main_v69 main_v70 (Host.log),
    nullary main_cst_5 (constant S_ .f32 0x00000000#32),
    unary main_cst_5 main_v71 (broadcastInDim S12 ![] bcast_S_S12),
    binary main_v71 main_v70 main_v72 (mulf),
    binary main_v65 main_v72 main_v73 (subf),
    nullary main_cst_6 (constant S_ .f32 0x3F000000#32),
    unary main_cst_6 main_v74 (broadcastInDim S12 ![] bcast_S_S12),
    binary main_v74 main_v52 main_v75 (mulf),
    nullary main_cst_7 (constant S_ .f32 0x3F000000#32),
    unary main_cst_7 main_v76 (broadcastInDim S12 ![] bcast_S_S12),
    binary main_v76 main_v58 main_v77 (mulf),
    binary main_v75 main_v77 main_v78 (addf),
    binary main_v78 main_v73 main_v79 (addf),
    nullary main_cst_8 (constant S_ .f32 0x00000000#32),
    binary main_v79 main_cst_8 main_v80 (fun x v => Host.reduceAdd x v reducesTo_S12_S_d0 h_S_) ]

/-- The operations of this stage touch only the arrays of the TensorCore. -/
theorem pairOps_sub : (pairOps : List (HloOp τ sig (Elt F))).Forall fun op => op.bufs ⊆ tcRefs τ sig :=
  ⟨unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., binary_bufs_sub .., binary_bufs_sub .., unary_bufs_sub .., unary_bufs_sub .., reshape_bufs_sub .., unary_bufs_sub .., reshape_bufs_sub .., binary_bufs_sub .., unary_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., binary_bufs_sub ..⟩

/-- What the summed pair loss are after these operations. -/
theorem pairOps_val (V : Valuation τ sig (Elt F)) :
    after pairOps V (main_v80 : DevRef τ sig) = pairLoss (V (main_arg1 : DevRef τ sig)) (V (main_v38 : DevRef τ sig)) := by
  after_results_simp
  rfl

/-- The references these operations write. -/
abbrev pairOps_out : List (Ref sig .tc) := [main_v39, main_v40, main_v41, main_v42, main_v43, main_v44, main_v45, main_v46, main_v47, main_v48, main_v49, main_v50, main_v51, main_v52, main_v53, main_v54, main_v55, main_v56, main_v57, main_v58, main_v59, main_v60, main_cst_1, main_v61, main_v62, main_v63, main_cst_2, main_v64, main_v65, main_cst_3, main_v66, main_v67, main_cst_4, main_v68, main_v69, main_v70, main_cst_5, main_v71, main_v72, main_v73, main_cst_6, main_v74, main_v75, main_cst_7, main_v76, main_v77, main_v78, main_v79, main_cst_8, main_v80]

/-- This stage leaves every array that it does not write as it was. -/
theorem pairOps_keep (V : Valuation τ sig (Elt F)) {r : Ref sig .tc} (h : r ∉ pairOps_out) :
    after pairOps V (r : DevRef τ sig) = V (r : DevRef τ sig) :=
  after_of_writes_sub pairOps V (forall_writes_sub_of_map rfl) h

/-- The operations of @main that compute the mask of paired predictions. -/
abbrev maskOps : List (HloOp τ sig (Elt F)) :=
  [ nullary main_cst_9 (constant S_ .f32 0x00000000#32),
    unary main_cst_9 main_v81 (broadcastInDim S20 ![] bcast_S_S20),
    nullary main_c (constantI S_ 32 0#32),
    unary main_c main_v82 (broadcastInDim S12 ![] bcast_S_S12),
    binary main_v37 main_v82 main_v83 (cmpi .slt),
    nullary main_c_10 (constantI S_ 32 20#32),
    unary main_c_10 main_v84 (broadcastInDim S12 ![] bcast_S_S12),
    binary main_v37 main_v84 main_v85 (addi),
    ternary main_v83 main_v85 main_v37 main_v86 (select),
    unary main_v86 main_v87 (broadcastInDim S12x1 ![0] bcast_S12_S12x1_0),
    nullary main_cst_11 (constant S_ .f32 0x3F800000#32),
    unary main_cst_11 main_v88 (broadcastInDim S12 ![] bcast_S_S12),
    ternary main_v81 main_v87 main_v88 main_v89 (fun x i u => Host.scatter scatter_S20_S12x1_S12_n_0_0_1 (fun _ b => b) x i u) ]

/-- The operations of this stage touch only the arrays of the TensorCore. -/
theorem maskOps_sub : (maskOps : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

/-- What the mask of paired predictions are after these operations. -/
theorem maskOps_val (V : Valuation τ sig (Elt F)) :
    after maskOps V (main_v89 : DevRef τ sig) = pairMask (V (main_v37 : DevRef τ sig)) := by
  after_results_simp
  rfl

/-- The references these operations write. -/
abbrev maskOps_out : List (Ref sig .tc) := [main_cst_9, main_v81, main_c, main_v82, main_v83, main_c_10, main_v84, main_v85, main_v86, main_v87, main_cst_11, main_v88, main_v89]

/-- This stage leaves every array that it does not write as it was. -/
theorem maskOps_keep (V : Valuation τ sig (Elt F)) {r : Ref sig .tc} (h : r ∉ maskOps_out) :
    after maskOps V (r : DevRef τ sig) = V (r : DevRef τ sig) :=
  after_of_writes_sub maskOps V (forall_writes_sub_of_map rfl) h

/-- The operations of @main that compute the loss from the pair loss and the mask. -/
abbrev lossOps : List (HloOp τ sig (Elt F)) :=
  [ unary main_arg0 main_v90 (extractStridedSlice S20x1 ![0, 3] · slices_S20x4_S20x1_0_3),
    reshape main_v90 main_v91 (rfl : (.f32 : EltTy) = .f32) shapeCasts_S20x1_S20,
    nullary main_cst_12 (constant S_ .f32 0x358637BD#32),
    unary main_cst_12 main_v92 (broadcastInDim S20 ![] bcast_S_S20),
    binary main_v91 main_v92 main_v93 (addf),
    unary main_v93 main_v94 (Host.log),
    nullary main_cst_13 (constant S_ .f32 0x80000000#32),
    unary main_cst_13 main_v95 (broadcastInDim S20 ![] bcast_S_S20),
    binary main_v95 main_v94 main_v96 (mulf),
    nullary main_cst_14 (constant S_ .f32 0x3F800000#32),
    unary main_cst_14 main_v97 (broadcastInDim S20 ![] bcast_S_S20),
    binary main_v97 main_v91 main_v98 (subf),
    nullary main_cst_15 (constant S_ .f32 0x358637BD#32),
    unary main_cst_15 main_v99 (broadcastInDim S20 ![] bcast_S_S20),
    binary main_v98 main_v99 main_v100 (addf),
    unary main_v100 main_v101 (Host.log),
    nullary main_cst_16 (constant S_ .f32 0x3F800000#32),
    unary main_cst_16 main_v102 (broadcastInDim S20 ![] bcast_S_S20),
    binary main_v102 main_v101 main_v103 (mulf),
    binary main_v96 main_v103 main_v104 (subf),
    unary main_arg0 main_v105 (extractStridedSlice S20x1 ![0, 2] · slices_S20x4_S20x1_0_2),
    reshape main_v105 main_v106 (rfl : (.f32 : EltTy) = .f32) shapeCasts_S20x1_S20,
    nullary main_cst_17 (constant S_ .f32 0x3F000000#32),
    unary main_cst_17 main_v107 (broadcastInDim S20 ![] bcast_S_S20),
    binary main_v107 main_v106 main_v108 (mulf),
    binary main_v104 main_v108 main_v109 (addf),
    nullary main_cst_18 (constant S_ .f32 0x3F000000#32),
    unary main_cst_18 main_v110 (broadcastInDim S20 ![] bcast_S_S20),
    binary main_v109 main_v110 main_v111 (mulf),
    nullary main_cst_19 (constant S_ .f32 0x00000000#32),
    unary main_cst_19 main_v112 (broadcastInDim S20 ![] bcast_S_S20),
    binary main_v89 main_v112 main_v113 (cmpf .oeq),
    nullary main_cst_20 (constant S_ .f32 0x00000000#32),
    unary main_cst_20 main_v114 (broadcastInDim S20 ![] bcast_S_S20),
    ternary main_v113 main_v111 main_v114 main_v115 select,
    nullary main_cst_21 (constant S_ .f32 0x00000000#32),
    binary main_v115 main_cst_21 main_v116 (fun x v => Host.reduceAdd x v reducesTo_S20_S_d0 h_S_),
    nullary main_cst_22 (constant S_ .f32 0x41400000#32),
    binary main_v80 main_cst_22 main_v117 (Host.divf),
    nullary main_cst_23 (constant S_ .f32 0x41000000#32),
    binary main_v116 main_cst_23 main_v118 (Host.divf),
    binary main_v117 main_v118 main_v119 (addf) ]

/-- The operations of this stage touch only the arrays of the TensorCore. -/
theorem lossOps_sub : (lossOps : List (HloOp τ sig (Elt F))).Forall fun op => op.bufs ⊆ tcRefs τ sig :=
  ⟨unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., reshape_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., ternary_bufs_sub .., nullary_bufs_sub .., binary_bufs_sub .., nullary_bufs_sub .., binary_bufs_sub .., nullary_bufs_sub .., binary_bufs_sub .., binary_bufs_sub ..⟩

/-- What the loss from the pair loss and the mask are after these operations. -/
theorem lossOps_val (V : Valuation τ sig (Elt F)) :
    after lossOps V (main_v119 : DevRef τ sig) = total (V (main_arg0 : DevRef τ sig)) (V (main_v80 : DevRef τ sig)) (V (main_v89 : DevRef τ sig)) := by
  after_results_simp
  rfl

/-- The references these operations write. -/
abbrev lossOps_out : List (Ref sig .tc) := [main_v90, main_v91, main_cst_12, main_v92, main_v93, main_v94, main_cst_13, main_v95, main_v96, main_cst_14, main_v97, main_v98, main_cst_15, main_v99, main_v100, main_v101, main_cst_16, main_v102, main_v103, main_v104, main_v105, main_v106, main_cst_17, main_v107, main_v108, main_v109, main_cst_18, main_v110, main_v111, main_cst_19, main_v112, main_v113, main_cst_20, main_v114, main_v115, main_cst_21, main_v116, main_cst_22, main_v117, main_cst_23, main_v118, main_v119]

/-- This stage leaves every array that it does not write as it was. -/
theorem lossOps_keep (V : Valuation τ sig (Elt F)) {r : Ref sig .tc} (h : r ∉ lossOps_out) :
    after lossOps V (r : DevRef τ sig) = V (r : DevRef τ sig) :=
  after_of_writes_sub lossOps V (forall_writes_sub_of_map rfl) h

/-! ## The whole line -/

/-- @main's operations, in order. -/
abbrev ops : List (HloOp τ sig (Elt F)) :=
  costOps ++ (argminOps ++ (takeOps ++ (pairOps ++ (maskOps ++ lossOps))))

/-- The operations of @main's window 0. -/
abbrev part0Ops : List (HloOp τ sig (Elt F)) :=
  [ unary main_arg1 main_v0 (extractStridedSlice S12x1 ![0, 0] · slices_S12x4_S12x1_0_0),
    reshape main_v0 main_v1 (rfl : (.f32 : EltTy) = .f32) shapeCasts_S12x1_S12,
    unary main_v1 main_v2 (broadcastInDim S12x1 ![0] bcast_S12_S12x1_0),
    unary main_arg0 main_v3 (extractStridedSlice S20x1 ![0, 0] · slices_S20x4_S20x1_0_0),
    reshape main_v3 main_v4 (rfl : (.f32 : EltTy) = .f32) shapeCasts_S20x1_S20,
    unary main_v4 main_v5 (broadcastInDim S1x20 ![1] bcast_S20_S1x20_1),
    unary main_v2 main_v6 (broadcastInDim S12x20 ![0, 1] bcast_S12x1_S12x20_0_1),
    unary main_v5 main_v7 (broadcastInDim S12x20 ![0, 1] bcast_S1x20_S12x20_0_1),
    binary main_v6 main_v7 main_v8 (subf),
    unary main_arg1 main_v9 (extractStridedSlice S12x1 ![0, 1] · slices_S12x4_S12x1_0_1),
    reshape main_v9 main_v10 (rfl : (.f32 : EltTy) = .f32) shapeCasts_S12x1_S12,
    unary main_v10 main_v11 (broadcastInDim S12x1 ![0] bcast_S12_S12x1_0),
    unary main_arg0 main_v12 (extractStridedSlice S20x1 ![0, 1] · slices_S20x4_S20x1_0_1),
    reshape main_v12 main_v13 (rfl : (.f32 : EltTy) = .f32) shapeCasts_S20x1_S20,
    unary main_v13 main_v14 (broadcastInDim S1x20 ![1] bcast_S20_S1x20_1),
    unary main_v11 main_v15 (broadcastInDim S12x20 ![0, 1] bcast_S12x1_S12x20_0_1),
    unary main_v14 main_v16 (broadcastInDim S12x20 ![0, 1] bcast_S1x20_S12x20_0_1),
    binary main_v15 main_v16 main_v17 (subf),
    binary main_v8 main_v8 main_v18 (mulf),
    binary main_v17 main_v17 main_v19 (mulf),
    binary main_v18 main_v19 main_v20 (addf),
    unary main_v20 main_v21 (Host.sqrt),
    unary main_arg1 main_v22 (extractStridedSlice S12x1 ![0, 2] · slices_S12x4_S12x1_0_2),
    reshape main_v22 main_v23 (rfl : (.f32 : EltTy) = .f32) shapeCasts_S12x1_S12,
    unary main_v23 main_v24 (broadcastInDim S12x1 ![0] bcast_S12_S12x1_0),
    unary main_arg0 main_v25 (extractStridedSlice S20x1 ![0, 2] · slices_S20x4_S20x1_0_2),
    reshape main_v25 main_v26 (rfl : (.f32 : EltTy) = .f32) shapeCasts_S20x1_S20,
    unary main_v26 main_v27 (broadcastInDim S1x20 ![1] bcast_S20_S1x20_1),
    unary main_v24 main_v28 (broadcastInDim S12x20 ![0, 1] bcast_S12x1_S12x20_0_1),
    unary main_v27 main_v29 (broadcastInDim S12x20 ![0, 1] bcast_S1x20_S12x20_0_1),
    binary main_v28 main_v29 main_v30 (subf),
    unary main_v30 main_v31 (Host.absf),
    nullary main_cst (constant S_ .f32 0x3F000000#32),
    unary main_cst main_v32 (broadcastInDim S12x20 ![] bcast_S_S12x20),
    binary main_v32 main_v21 main_v33 (mulf),
    nullary main_cst_0 (constant S_ .f32 0x3F000000#32),
    unary main_cst_0 main_v34 (broadcastInDim S12x20 ![] bcast_S_S12x20),
    binary main_v34 main_v31 main_v35 (mulf),
    binary main_v33 main_v35 main_v36 (addf),
    nullary main_call0_v0 (iotaInDim S12x20 32 1),
    nullary main_call0_cst (constant S_ .f32 0x7F800000#32),
    nullary main_call0_c (constantI S_ 32 0#32),
    quaternary main_v36 main_call0_v0 main_call0_cst main_call0_c main_call0_v1_0 (fun x y u v j => (Host.argReduce reducer_argmin_f32_i32 x y u v reducesTo_S12x20_S12_d1 h_S_ j).1),
    quaternary main_v36 main_call0_v0 main_call0_cst main_call0_c main_v37 (fun x y u v j => (Host.argReduce reducer_argmin_f32_i32 x y u v reducesTo_S12x20_S12_d1 h_S_ j).2),
    nullary main_call1_c (constantI S_ 32 0#32),
    unary main_call1_c main_call1_v0 (broadcastInDim S12 ![] bcast_S_S12),
    binary main_v37 main_call1_v0 main_call1_v1 (cmpi .slt),
    nullary main_call1_c_0 (constantI S_ 32 20#32),
    unary main_call1_c_0 main_call1_v2 (broadcastInDim S12 ![] bcast_S_S12),
    binary main_v37 main_call1_v2 main_call1_v3 addi,
    ternary main_call1_v1 main_call1_v3 main_v37 main_call1_v4 select,
    unary main_call1_v4 main_call1_v5 (broadcastInDim S12x1 ![0] bcast_S12_S12x1_0),
    nullary main_call1_c_1 (constantI S1 32 19#32),
    nullary main_call1_c_2 (constantI S_ 32 0#32),
    unary main_call1_c_2 main_call1_v6 (broadcastInDim S12x1 ![] bcast_S_S12x1),
    binary main_call1_v5 main_call1_v6 main_call1_v7 (cmpi .sge),
    unary main_call1_c_1 main_call1_v8 (broadcastInDim S1x1 ![1] bcast_S1_S1x1_1),
    unary main_call1_v8 main_call1_v9 (broadcastInDim S12x1 ![0, 1] bcast_S1x1_S12x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S12x1_S12_d1 h_S_),
    binary main_arg0 main_call1_v5 main_call1_v13 (fun x i => Host.gather gather_S20x4_S12x1_S12x4_1_0_n_n_0_1_14 x i),
    unary main_call1_v12 main_call1_v14 (broadcastInDim S12x4 ![0] bcast_S12_S12x4_0),
    nullary main_call1_cst (constant S_ .f32 0x7FC00000#32),
    unary main_call1_cst main_call1_v15 (broadcastInDim S12x4 ![] bcast_S_S12x4),
    ternary main_call1_v14 main_call1_v13 main_call1_v15 main_v38 select,
    unary main_arg1 main_v39 (extractStridedSlice S12x1 ![0, 0] · slices_S12x4_S12x1_0_0),
    reshape main_v39 main_v40 (rfl : (.f32 : EltTy) = .f32) shapeCasts_S12x1_S12,
    unary main_v38 main_v41 (extractStridedSlice S12x1 ![0, 0] · slices_S12x4_S12x1_0_0),
    reshape main_v41 main_v42 (rfl : (.f32 : EltTy) = .f32) shapeCasts_S12x1_S12,
    binary main_v40 main_v42 main_v43 (subf),
    binary main_v43 main_v43 main_v44 (mulf),
    unary main_arg1 main_v45 (extractStridedSlice S12x1 ![0, 1] · slices_S12x4_S12x1_0_1),
    reshape main_v45 main_v46 (rfl : (.f32 : EltTy) = .f32) shapeCasts_S12x1_S12,
    unary main_v38 main_v47 (extractStridedSlice S12x1 ![0, 1] · slices_S12x4_S12x1_0_1),
    reshape main_v47 main_v48 (rfl : (.f32 : EltTy) = .f32) shapeCasts_S12x1_S12,
    binary main_v46 main_v48 main_v49 (subf),
    binary main_v49 main_v49 main_v50 (mulf),
    binary main_v44 main_v50 main_v51 (addf),
    unary main_v51 main_v52 (Host.sqrt),
    unary main_arg1 main_v53 (extractStridedSlice S12x1 ![0, 2] · slices_S12x4_S12x1_0_2),
    reshape main_v53 main_v54 (rfl : (.f32 : EltTy) = .f32) shapeCasts_S12x1_S12,
    unary main_v38 main_v55 (extractStridedSlice S12x1 ![0, 2] · slices_S12x4_S12x1_0_2),
    reshape main_v55 main_v56 (rfl : (.f32 : EltTy) = .f32) shapeCasts_S12x1_S12,
    binary main_v54 main_v56 main_v57 (subf) ]

set_option maxRecDepth 65536 in
set_option maxHeartbeats 4000000 in
/-- The first printed part is its list of operations in order. -/
theorem part0_eq (c : Dev nD) : main_part0 (F := F) c = seq part0Ops := rfl

/-- The operations of @main's window 1. -/
abbrev part1Ops : List (HloOp τ sig (Elt F)) :=
  [ unary main_v57 main_v58 (Host.absf),
    unary main_v38 main_v59 (extractStridedSlice S12x1 ![0, 3] · slices_S12x4_S12x1_0_3),
    reshape main_v59 main_v60 (rfl : (.f32 : EltTy) = .f32) shapeCasts_S12x1_S12,
    nullary main_cst_1 (constant S_ .f32 0x358637BD#32),
    unary main_cst_1 main_v61 (broadcastInDim S12 ![] bcast_S_S12),
    binary main_v60 main_v61 main_v62 (addf),
    unary main_v62 main_v63 (Host.log),
    nullary main_cst_2 (constant S_ .f32 0xBF800000#32),
    unary main_cst_2 main_v64 (broadcastInDim S12 ![] bcast_S_S12),
    binary main_v64 main_v63 main_v65 (mulf),
    nullary main_cst_3 (constant S_ .f32 0x3F800000#32),
    unary main_cst_3 main_v66 (broadcastInDim S12 ![] bcast_S_S12),
    binary main_v66 main_v60 main_v67 (subf),
    nullary main_cst_4 (constant S_ .f32 0x358637BD#32),
    unary main_cst_4 main_v68 (broadcastInDim S12 ![] bcast_S_S12),
    binary main_v67 main_v68 main_v69 (addf),
    unary main_v69 main_v70 (Host.log),
    nullary main_cst_5 (constant S_ .f32 0x00000000#32),
    unary main_cst_5 main_v71 (broadcastInDim S12 ![] bcast_S_S12),
    binary main_v71 main_v70 main_v72 (mulf),
    binary main_v65 main_v72 main_v73 (subf),
    nullary main_cst_6 (constant S_ .f32 0x3F000000#32),
    unary main_cst_6 main_v74 (broadcastInDim S12 ![] bcast_S_S12),
    binary main_v74 main_v52 main_v75 (mulf),
    nullary main_cst_7 (constant S_ .f32 0x3F000000#32),
    unary main_cst_7 main_v76 (broadcastInDim S12 ![] bcast_S_S12),
    binary main_v76 main_v58 main_v77 (mulf),
    binary main_v75 main_v77 main_v78 (addf),
    binary main_v78 main_v73 main_v79 (addf),
    nullary main_cst_8 (constant S_ .f32 0x00000000#32),
    binary main_v79 main_cst_8 main_v80 (fun x v => Host.reduceAdd x v reducesTo_S12_S_d0 h_S_),
    nullary main_cst_9 (constant S_ .f32 0x00000000#32),
    unary main_cst_9 main_v81 (broadcastInDim S20 ![] bcast_S_S20),
    nullary main_c (constantI S_ 32 0#32),
    unary main_c main_v82 (broadcastInDim S12 ![] bcast_S_S12),
    binary main_v37 main_v82 main_v83 (cmpi .slt),
    nullary main_c_10 (constantI S_ 32 20#32),
    unary main_c_10 main_v84 (broadcastInDim S12 ![] bcast_S_S12),
    binary main_v37 main_v84 main_v85 (addi),
    ternary main_v83 main_v85 main_v37 main_v86 (select),
    unary main_v86 main_v87 (broadcastInDim S12x1 ![0] bcast_S12_S12x1_0),
    nullary main_cst_11 (constant S_ .f32 0x3F800000#32),
    unary main_cst_11 main_v88 (broadcastInDim S12 ![] bcast_S_S12),
    ternary main_v81 main_v87 main_v88 main_v89 (fun x i u => Host.scatter scatter_S20_S12x1_S12_n_0_0_1 (fun _ b => b) x i u),
    unary main_arg0 main_v90 (extractStridedSlice S20x1 ![0, 3] · slices_S20x4_S20x1_0_3),
    reshape main_v90 main_v91 (rfl : (.f32 : EltTy) = .f32) shapeCasts_S20x1_S20,
    nullary main_cst_12 (constant S_ .f32 0x358637BD#32),
    unary main_cst_12 main_v92 (broadcastInDim S20 ![] bcast_S_S20),
    binary main_v91 main_v92 main_v93 (addf),
    unary main_v93 main_v94 (Host.log),
    nullary main_cst_13 (constant S_ .f32 0x80000000#32),
    unary main_cst_13 main_v95 (broadcastInDim S20 ![] bcast_S_S20),
    binary main_v95 main_v94 main_v96 (mulf),
    nullary main_cst_14 (constant S_ .f32 0x3F800000#32),
    unary main_cst_14 main_v97 (broadcastInDim S20 ![] bcast_S_S20),
    binary main_v97 main_v91 main_v98 (subf),
    nullary main_cst_15 (constant S_ .f32 0x358637BD#32),
    unary main_cst_15 main_v99 (broadcastInDim S20 ![] bcast_S_S20),
    binary main_v98 main_v99 main_v100 (addf),
    unary main_v100 main_v101 (Host.log) ]

set_option maxRecDepth 65536 in
set_option maxHeartbeats 4000000 in
/-- The second printed part is its list of operations in order. -/
theorem part1_eq (c : Dev nD) : main_part1 (F := F) c = seq part1Ops := rfl

/-- The operations of @main's window 2. -/
abbrev part2Ops : List (HloOp τ sig (Elt F)) :=
  [ nullary main_cst_16 (constant S_ .f32 0x3F800000#32),
    unary main_cst_16 main_v102 (broadcastInDim S20 ![] bcast_S_S20),
    binary main_v102 main_v101 main_v103 (mulf),
    binary main_v96 main_v103 main_v104 (subf),
    unary main_arg0 main_v105 (extractStridedSlice S20x1 ![0, 2] · slices_S20x4_S20x1_0_2),
    reshape main_v105 main_v106 (rfl : (.f32 : EltTy) = .f32) shapeCasts_S20x1_S20,
    nullary main_cst_17 (constant S_ .f32 0x3F000000#32),
    unary main_cst_17 main_v107 (broadcastInDim S20 ![] bcast_S_S20),
    binary main_v107 main_v106 main_v108 (mulf),
    binary main_v104 main_v108 main_v109 (addf),
    nullary main_cst_18 (constant S_ .f32 0x3F000000#32),
    unary main_cst_18 main_v110 (broadcastInDim S20 ![] bcast_S_S20),
    binary main_v109 main_v110 main_v111 (mulf),
    nullary main_cst_19 (constant S_ .f32 0x00000000#32),
    unary main_cst_19 main_v112 (broadcastInDim S20 ![] bcast_S_S20),
    binary main_v89 main_v112 main_v113 (cmpf .oeq),
    nullary main_cst_20 (constant S_ .f32 0x00000000#32),
    unary main_cst_20 main_v114 (broadcastInDim S20 ![] bcast_S_S20),
    ternary main_v113 main_v111 main_v114 main_v115 select,
    nullary main_cst_21 (constant S_ .f32 0x00000000#32),
    binary main_v115 main_cst_21 main_v116 (fun x v => Host.reduceAdd x v reducesTo_S20_S_d0 h_S_),
    nullary main_cst_22 (constant S_ .f32 0x41400000#32),
    binary main_v80 main_cst_22 main_v117 (Host.divf),
    nullary main_cst_23 (constant S_ .f32 0x41000000#32),
    binary main_v116 main_cst_23 main_v118 (Host.divf),
    binary main_v117 main_v118 main_v119 (addf) ]

set_option maxRecDepth 65536 in
set_option maxHeartbeats 4000000 in
/-- The third printed part is its list of operations in order. -/
theorem part2_eq (c : Dev nD) : main_part2 (F := F) c = seq part2Ops := rfl

/-- @main is that straight line. -/
theorem main_eq (c : Dev nD) : main (F := F) c = seq ops := by
  have h : (ops : List (HloOp τ sig (Elt F))) = part0Ops ++ (part1Ops ++ part2Ops) := rfl
  rw [h, seq_append, seq_append, ← part0_eq c, ← part1_eq c, ← part2_eq c]
  rfl

/-- Every operation of the reference touches only the arrays of the TensorCore. -/
theorem ops_sub : (ops : List (HloOp τ sig (Elt F))).Forall fun op => op.bufs ⊆ tcRefs τ sig := by
  refine List.forall_iff_forall_mem.mpr fun op h => ?_
  simp only [ops, List.mem_append] at h
  rcases h with h | h | h | h | h | h
  · exact List.forall_iff_forall_mem.mp costOps_sub op h
  · exact List.forall_iff_forall_mem.mp argminOps_sub op h
  · exact List.forall_iff_forall_mem.mp takeOps_sub op h
  · exact List.forall_iff_forall_mem.mp pairOps_sub op h
  · exact List.forall_iff_forall_mem.mp maskOps_sub op h
  · exact List.forall_iff_forall_mem.mp lossOps_sub op h

/-- No operation of the reference takes fresh buffers. -/
theorem ops_fresh : ∀ op ∈ (ops : List (HloOp τ sig (Elt F))), op.fresh = ∅ :=
  List.forall_iff_forall_mem.mp (forall_fresh_of_map rfl)

/-- One line after another. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The index of the prediction paired with each label. -/
def pairedIdx (a0 : FVec F S20x4 .f32) (a1 : FVec F S12x4 .f32) : IVec S12 32 := firstMin (costs a0 a1)

/-- The reference's result, of its two arguments. -/
def result (a0 : FVec F S20x4 .f32) (a1 : FVec F S12x4 .f32) : FVec F S_ .f32 :=
  total a0 (pairLoss a1 (taken a0 (pairedIdx a0 a1))) (pairMask (pairedIdx a0 a1))

/-- What the result buffer holds after the whole line. -/
theorem ops_val (V : Valuation τ sig (Elt F)) :
    after ops V (main_v119 : DevRef τ sig) = result (V (main_arg0 : DevRef τ sig)) (V (main_arg1 : DevRef τ sig)) := by
  simp only [ops, after_append]
  rw [lossOps_val, maskOps_keep _ (by decide : main_arg0 ∉ maskOps_out), maskOps_keep _ (by decide : main_v80 ∉ maskOps_out), maskOps_val,
    pairOps_keep _ (by decide : main_arg0 ∉ pairOps_out), pairOps_keep _ (by decide : main_v37 ∉ pairOps_out), pairOps_val,
    takeOps_keep _ (by decide : main_arg0 ∉ takeOps_out), takeOps_keep _ (by decide : main_arg1 ∉ takeOps_out),
    takeOps_keep _ (by decide : main_v37 ∉ takeOps_out), takeOps_val,
    argminOps_keep _ (by decide : main_arg0 ∉ argminOps_out), argminOps_keep _ (by decide : main_arg1 ∉ argminOps_out), argminOps_val,
    costOps_keep _ (by decide : main_arg0 ∉ costOps_out), costOps_keep _ (by decide : main_arg1 ∉ costOps_out), costOps_val]
  rfl

/-- A reference that no operation writes keeps its contents. -/
theorem ops_keep (V : Valuation τ sig (Elt F)) {r : Ref sig .tc} (h₁ : r ∉ costOps_out) (h₂ : r ∉ argminOps_out)
    (h₃ : r ∉ takeOps_out) (h₄ : r ∉ pairOps_out) (h₅ : r ∉ maskOps_out) (h₆ : r ∉ lossOps_out) :
    after ops V (r : DevRef τ sig) = V (r : DevRef τ sig) := by
  simp only [ops, after_append]
  rw [lossOps_keep _ h₆, maskOps_keep _ h₅, pairOps_keep _ h₄, takeOps_keep _ h₃, argminOps_keep _ h₂, costOps_keep _ h₁]

/-- The reference declares no scoped buffer. -/
theorem scopedRefs_eq : (Finset.univ.filter fun b : Ref sig .tc => b.isScoped) = ∅ := by decide
/-- The reference declares no scoped semaphore. -/
theorem scopedSems_eq : (Finset.univ.filter fun sm : SemLoc sig => sm.isScoped .tc) = ∅ := by decide

/-- Every weakly fair execution of the reference terminates with its result buffer at `result` of the two arguments and
    the arguments as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v119)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v119).trans (ops_val _),
      (h c main_arg0).trans (ops_keep _ (by decide) (by decide) (by decide) (by decide) (by decide) (by decide)),
      (h c main_arg1).trans (ops_keep _ (by decide) (by decide) (by decide) (by decide) (by decide) (by decide))⟩)
    (run_seq scopedRefs_eq scopedSems_eq defs main (fun _ => ops) main_eq (fun _ => ops_sub) m ρ (fun _ => ops_fresh))

end Cert.Proof.Ref

end
-- ==== Proof.Frames.lean ====
/-
  The frames of the kernel, of its idealization and of the reference, and the idealization's two named constants.
-/
module

public import proofs.«01_k».proof.Proof.Launch
public import proofs.«01_k».proof.Proof.RefRun
public import proofs.«01_k».proof.Proof.Gen.Kernel
public import Idealize.ShloMosaic.PureOps.IdealRules

@[expose] public section

noncomputable section

namespace Cert.Proof

open Idealize.ShloMosaic Idealize.SL.Sem

/-- Bit by bit a named constant is the pattern it was printed from. -/
local instance bitsNamed : Named Bits where
  named _ _ {φ} bits := Scalar.ofBits φ bits

set_option maxHeartbeats 4000000 in
/-- The kernel ends with its arguments as they were and every semaphore at zero: its idealization's run, whose text it
    is, read at bits. -/
theorem frame_p : Cert.quiescent_Kernel (hKernel := Cert.Kernel.Gen.facts) := fun m ρ _ =>
  (θ_run (Cert.KernelIdeal.defs (F := Bits)) (Cert.KernelIdeal.threads (F := Bits)) _).mono
    (fun _ h => ⟨fun c => ⟨(h.1 c).1, (h.1 c).2.1⟩, h.2⟩) (Kern.run_main (F := Bits) m ρ)

/-- The idealized kernel ends with its arguments as they were and every semaphore at zero. -/
theorem frame_pi : Cert.quiescent_KernelIdeal (hKernelIdeal := Cert.KernelIdeal.Gen.facts) := fun m ρ _ =>
  (θ_run (Cert.KernelIdeal.defs (F := Ideal)) (Cert.KernelIdeal.threads (F := Ideal)) _).mono
    (fun _ h => ⟨fun c => ⟨(h.1 c).1, (h.1 c).2.1⟩, h.2⟩) (Kern.run_main (F := Ideal) m ρ)

/-- The reference ends with its arguments as they were; it declares no semaphore. -/
theorem frame_ri : Cert.quiescent_ReferenceIdeal (hReferenceIdeal := Cert.ReferenceIdeal.Gen.facts) := fun m ρ _ =>
  (θ_run Cert.ReferenceIdeal.defs _ _).mono (fun r h => ⟨fun c => ⟨(h c).2.1, (h c).2.2⟩, sem_eq_zero_of_no_sems (by decide) r.2⟩)
    (Ref.run_main (F := Ideal) m ρ)

/-- The table gives the two names the values the idealization reads for them. -/
theorem preserves : Cert.preserves_Kernel_KernelIdeal :=
  ⟨IdealRules.named_const.statement Cert.KernelIdeal.κ "start" .f32 0x7149F2CA#32 ⊤ rfl,
    IdealRules.named_const.statement Cert.KernelIdeal.κ "twelfth" .f32 0x3DAAAAAB#32 ((12⁻¹ : ℝ) : EReal) rfl⟩

end Cert.Proof

end
-- ==== Proof.Consts.lean ====
/-
  The float constants the two programs spell, as the extended reals their bit patterns denote. One module unfolds the
  meaning of a bit pattern; every other reads its constants here.
-/
module

public import Idealize.ShloMosaic.PureOps.Ideal

@[expose] public section

noncomputable section

namespace Cert.Proof.Consts

open Idealize.ShloMosaic

/-- The pattern of `0.0` denotes zero. -/
theorem bits_zero : Ideal.ofBits .f32 0x00000000#32 = (0 : EReal) := by
  simp [Ideal.ofBits, Ideal.ieee, -EReal.coe_mul]

/-- The pattern of `-0.0` denotes zero. -/
theorem bits_negZero : Ideal.ofBits .f32 0x80000000#32 = (0 : EReal) := by
  simp [Ideal.ofBits, Ideal.ieee, -EReal.coe_mul]

/-- The pattern of `1.0` denotes one. -/
theorem bits_one : Ideal.ofBits .f32 0x3F800000#32 = (1 : EReal) := by
  simp [Ideal.ofBits, Ideal.ieee, -EReal.coe_mul]; norm_num

/-- The pattern of `-1.0` denotes minus one. -/
theorem bits_negOne : Ideal.ofBits .f32 0xBF800000#32 = (-1 : EReal) := by
  simp [Ideal.ofBits, Ideal.ieee, -EReal.coe_mul]; norm_num

/-- The pattern of `12.0` denotes the real `12`. -/
theorem bits_twelve : Ideal.ofBits .f32 0x41400000#32 = ((12 : ℝ) : EReal) := by
  simp [Ideal.ofBits, Ideal.ieee, -EReal.coe_mul]; norm_num

/-- The pattern of `8.0` denotes the real `8`. -/
theorem bits_eight : Ideal.ofBits .f32 0x41000000#32 = ((8 : ℝ) : EReal) := by
  simp [Ideal.ofBits, Ideal.ieee, -EReal.coe_mul]; norm_num

/-- The pattern of `0.125` denotes the real `1 / 8`. -/
theorem bits_eighth : Ideal.ofBits .f32 0x3E000000#32 = ((1 / 8 : ℝ) : EReal) := by
  simp [Ideal.ofBits, Ideal.ieee, -EReal.coe_mul]; norm_num

/-- The pattern of the positive infinity denotes the top element. -/
theorem bits_top : Ideal.ofBits .f32 0x7F800000#32 = (⊤ : EReal) := by
  simp [Ideal.ofBits, Ideal.ieee, -EReal.coe_mul]

end Cert.Proof.Consts

end
-- ==== Proof.Spec.lean ====
/-
  The loss as a function of the predictions and the labels over the extended reals, stated of neither program: the gap
  between a label and a prediction, the first prediction of least gap, and the loss of a pairing. Both programs are
  shown to compute it; the pairing is unique, so that they compute the same number.
-/
module

public import Idealize.ShloMosaic.PureOps.Ideal

@[expose] public section

noncomputable section

namespace Cert.Proof

open Idealize.ShloMosaic

/-- The constant one half, and the small constant added under a logarithm, as the programs spell them. -/
def half : EReal := Ideal.ofBits .f32 0x3F000000#32
def tiny : EReal := Ideal.ofBits .f32 0x358637BD#32

/-- The gap between a label `l` and a prediction `p`: half the distance of their centres and half the difference of
    their radii. -/
def gap (l p : Fin 4 → EReal) : EReal :=
  half * Ideal.sqrt ((l 0 - p 0) * (l 0 - p 0) + (l 1 - p 1) * (l 1 - p 1)) + half * max (l 2 - p 2) (-(l 2 - p 2))

/-- What a pair adds to the loss: its gap, less the logarithm of the prediction's confidence. -/
def pairTerm (l p : Fin 4 → EReal) : EReal := gap l p - Ideal.log (p 3 + tiny)

/-- What a prediction of no pair adds to the loss. -/
def spareTerm (p : Fin 4 → EReal) : EReal := ((0 - Ideal.log (1 - p 3 + tiny)) + half * p 2) * half

/-- `i` is the first index at which `c` is least. -/
def FirstMin {n : ℕ} (c : Fin n → EReal) (i : Fin n) : Prop := (∀ j, c i ≤ c j) ∧ ∀ j, j < i → c i < c j

/-- There is at most one such index. -/
theorem FirstMin.unique {n : ℕ} {c : Fin n → EReal} {i j : Fin n} (hi : FirstMin c i) (hj : FirstMin c j) : i = j := by
  rcases lt_trichotomy i j with h | h | h
  · exact absurd (hj.2 i h) (not_lt.2 (hi.1 j))
  · exact h
  · exact absurd (hi.2 j h) (not_lt.2 (hj.1 i))

/-- Every label is paired with the first prediction of least gap. -/
def Paired (p : Fin 20 → Fin 4 → EReal) (l : Fin 12 → Fin 4 → EReal) (idx : Fin 12 → Fin 20) : Prop :=
  ∀ m, FirstMin (fun n => gap (l m) (p n)) (idx m)

/-- The pairing is unique. -/
theorem Paired.unique {p : Fin 20 → Fin 4 → EReal} {l : Fin 12 → Fin 4 → EReal} {i j : Fin 12 → Fin 20}
    (hi : Paired p l i) (hj : Paired p l j) : i = j := funext fun m => (hi m).unique (hj m)

/-- The loss of a pairing: the mean over the twelve pairs, and an eighth of the sum over the predictions of no pair. -/
def loss (p : Fin 20 → Fin 4 → EReal) (l : Fin 12 → Fin 4 → EReal) (idx : Fin 12 → Fin 20) : EReal :=
  (∑ m, pairTerm (l m) (p (idx m))) * ((1 / 12 : ℝ) : EReal)
    + (∑ n, if ∃ m, idx m = n then 0 else spareTerm (p n)) * ((1 / 8 : ℝ) : EReal)

/-! ## A scan for the least value -/

/-- The state of a scan of the first `n` values of `c`: `v` is the least so far and `i` the index it was first found
    at, or the scan is still at its start, at index zero with the top element. -/
def Scanned (c : ℕ → EReal) (n i : ℕ) (v : EReal) : Prop :=
  (∀ j, j < n → v ≤ c j) ∧ ((i = 0 ∧ v = ⊤) ∨ (i < n ∧ v = c i ∧ ∀ j, j < i → v < c j))

/-- The scan's start. -/
theorem Scanned.start (c : ℕ → EReal) : Scanned c 0 0 ⊤ := ⟨fun _ h => absurd h (Nat.not_lt_zero _), Or.inl ⟨rfl, rfl⟩⟩

/-- A step that finds nothing smaller keeps the state. -/
theorem Scanned.keep {c : ℕ → EReal} {n i : ℕ} {v : EReal} (h : Scanned c n i v) (hv : ¬ c n < v) :
    Scanned c (n + 1) i v := by
  refine ⟨fun j hj => ?_, h.2.imp_right fun ⟨a, b, d⟩ => ⟨a.trans (Nat.lt_succ_self n), b, d⟩⟩
  rcases Nat.lt_succ_iff_lt_or_eq.1 hj with h' | rfl
  · exact h.1 j h'
  · exact not_lt.1 hv

/-- A step that finds a smaller value takes it. -/
theorem Scanned.take {c : ℕ → EReal} {n i : ℕ} {v : EReal} (h : Scanned c n i v) (hv : c n < v) :
    Scanned c (n + 1) n (c n) := by
  refine ⟨fun j hj => ?_, Or.inr ⟨Nat.lt_succ_self n, rfl, fun j hj => hv.trans_le (h.1 j hj)⟩⟩
  rcases Nat.lt_succ_iff_lt_or_eq.1 hj with h' | rfl
  · exact (hv.trans_le (h.1 j h')).le
  · exact le_rfl

/-- The state after all `n` values, of which there is one, names the first least value. -/
theorem Scanned.firstMin {c : ℕ → EReal} {n i : ℕ} {v : EReal} (h : Scanned c (n + 1) i v) :
    ∃ hi : i < n + 1, FirstMin (fun k : Fin (n + 1) => c k.val) ⟨i, hi⟩ := by
  rcases h.2 with ⟨rfl, rfl⟩ | ⟨hi, rfl, hb⟩
  · refine ⟨Nat.succ_pos n, fun j => ?_, fun j hj => absurd hj (Nat.not_lt_zero _)⟩
    exact le_top.trans (h.1 j.val j.isLt)
  · exact ⟨hi, fun j => h.1 j.val j.isLt, fun j hj => hb j.val hj⟩

/-! ## Folds and sums -/

/-- A property of the positions passed and the state that every step preserves holds at the end of a fold over the
    numbers below `M`. -/
theorem foldl_finRange_inv {σ : Type} (M : ℕ) (f : σ → Fin M → σ) (P : ℕ → σ → Prop) (a : σ) (h0 : P 0 a)
    (hs : ∀ (n : Fin M) (s : σ), P n.val s → P (n.val + 1) (f s n)) : P M ((List.finRange M).foldl f a) := by
  induction M with
  | zero => exact h0
  | succ M ih =>
    rw [List.finRange_succ_last, List.foldl_append, List.foldl_map]
    exact hs (Fin.last M) _ (ih (fun s n => f s n.castSucc) fun n s h => hs n.castSucc s h)

/-- A sum of sixteen values that vanish from the twelfth on. -/
theorem sum_twelve (t : Fin 16 → EReal) (h : ∀ k : Fin 16, 12 ≤ k.val → t k = 0) :
    ∑ k, t k = ∑ m : Fin 12, t (Fin.castLE (by decide) m) := by
  rw [show (∑ k, t k) = ∑ k : Fin (12 + 4), t k from rfl, Fin.sum_univ_add,
    Finset.sum_eq_zero (s := (Finset.univ : Finset (Fin 4))) (fun k _ => h _ (Nat.le_add_right 12 k.val)), add_zero]
  rfl

/-- Two sums of sixteen values, the second vanishing from the fourth on, are one sum of twenty. -/
theorem sum_twenty (t : Fin 20 → EReal) (s r : Fin 16 → EReal) (hs : ∀ k : Fin 16, s k = t (Fin.castLE (by decide) k))
    (hr : ∀ k : Fin 16, r k = if h : k.val < 4 then t ⟨16 + k.val, by omega⟩ else 0) :
    ∑ k, (s k + r k) = ∑ n, t n := by
  rw [Finset.sum_add_distrib, show (∑ n, t n) = ∑ n : Fin (16 + 4), t n from rfl, Fin.sum_univ_add]
  congr 1
  · exact Finset.sum_congr rfl fun k _ => hs k
  · rw [show (∑ k, r k) = ∑ k : Fin (4 + 12), r k from rfl, Fin.sum_univ_add]
    rw [Finset.sum_eq_zero (s := (Finset.univ : Finset (Fin 12))), add_zero]
    · exact Finset.sum_congr rfl fun k _ => (hr _).trans (dif_pos k.isLt)
    · exact fun k _ => (hr _).trans (dif_neg (by show ¬ 4 + k.val < 4; omega))

end Cert.Proof

end
-- ==== Proof.KernelValue.lean ====
/-
  What the kernel computes, over the extended reals, of scratch buffers that hold the predictions and the labels: every
  lane's gaps, the first prediction of least gap, the sum over the pairs, the mask of the paired predictions, and the
  loss.
-/
module

public import proofs.«01_k».proof.Proof.Vals
public import proofs.«01_k».proof.Proof.Consts
public import proofs.«01_k».proof.Proof.Spec
public import Idealize.ShloMosaic.Lib.Pointwise

@[expose] public section

noncomputable section

namespace Cert.Proof.Kern

open Cert.KernelIdeal Cert.KernelIdeal.Gen
open Idealize.ShloMosaic

/-- A scratch buffer holds the predictions from its eighth word on, four words each. -/
def HoldsPreds (p : Fin 20 → Fin 4 → EReal) (fp : FVec Ideal S144 .f32) : Prop :=
  ∀ (n : Fin 20) (k : Fin 4) (y : S144.Idx), (y 0).val = 8 + 4 * n.val + k.val → fp y = p n k

/-- A scratch buffer holds the labels from its first word on, four words each. -/
def HoldsLabs (l : Fin 12 → Fin 4 → EReal) (fl : FVec Ideal S64 .f32) : Prop :=
  ∀ (m : Fin 12) (k : Fin 4) (y : S64.Idx), (y 0).val = 4 * m.val + k.val → fl y = l m k

variable {p : Fin 20 → Fin 4 → EReal} {l : Fin 12 → Fin 4 → EReal} {fp : FVec Ideal S144 .f32} {fl : FVec Ideal S64 .f32}

/-- A gather of a prediction's word. -/
theorem HoldsPreds.pick_at (hp : HoldsPreds p fp) (v : IVec S16 32) (x : S16.Idx) (n : Fin 20) (k : Fin 4)
    (hv : (v x).toNat = 8 + 4 * n.val + k.val) : pick fp v x = p n k :=
  hp n k _ (by
    show (v x).toNat % 144 = _
    rw [hv, Nat.mod_eq_of_lt (by omega)])

/-- A gather of a label's word. -/
theorem HoldsLabs.pick_at (hl : HoldsLabs l fl) (v : IVec S16 32) (x : S16.Idx) (m : Fin 12) (k : Fin 4)
    (hv : (v x).toNat = 4 * m.val + k.val) : pick fl v x = l m k :=
  hl m k _ (by
    show (v x).toNat % 64 = _
    rw [hv, Nat.mod_eq_of_lt (by omega)])

/-! ## Lanes -/

/-- The lane of a label. -/
def laneOf (m : Fin 12) : S16.Idx := ix1 (Fin.castLE (by decide : 12 ≤ 16) m)

/-- Each lane's number. -/
theorem lanes_at (k : Fin 16) : lanes (ix1 k) = BitVec.ofNat 32 k.val := by
  unfold lanes
  pointwise

/-- Four times each lane's number. -/
theorem lanes4_at (k : Fin 16) : (lanes4 (ix1 k)).toNat = 4 * k.val := by
  show (4#32 * lanes (ix1 k)).toNat = _
  rw [lanes_at, BitVec.toNat_mul, BitVec.toNat_ofNat, BitVec.toNat_ofNat]
  omega

/-- Four times each lane's number and a constant more. -/
theorem lanes4_add (k : Fin 16) (c : ℕ) (hc : c < 100) :
    (addi lanes4 (broadcast S16 (BitVec.ofNat 32 c)) (ix1 k)).toNat = 4 * k.val + c := by
  show (lanes4 (ix1 k) + BitVec.ofNat 32 c).toNat = _
  rw [BitVec.toNat_add, lanes4_at, BitVec.toNat_ofNat]
  omega

/-- The lanes that hold a label. -/
theorem valid_at (k : Fin 16) : valid (ix1 k) = if k.val < 12 then 1#1 else 0#1 := by
  show BitVec.ofBool ((lanes (ix1 k)).slt 12#32) = _
  rw [lanes_at]
  revert k
  decide

/-! ## The search -/

/-- A word of a prediction, on every lane. -/
theorem HoldsPreds.word_at (hp : HoldsPreds p fp) (n : Fin 20) (k : Fin 4) (x : S16.Idx) (w : ℕ)
    (hw : w = 8 + 4 * n.val + k.val) : word fp w x = p n k :=
  hp.pick_at _ x n k (by
    show (BitVec.ofNat 32 w).toNat = _
    rw [BitVec.toNat_ofNat]
    omega)

/-- Each lane's label's first coordinate. -/
theorem HoldsLabs.labX_at (hl : HoldsLabs l fl) (m : Fin 12) : labX fl (laneOf m) = l m 0 :=
  hl.pick_at _ _ m 0 (lanes4_at _)
/-- Each lane's label's second coordinate. -/
theorem HoldsLabs.labY_at (hl : HoldsLabs l fl) (m : Fin 12) : labY fl (laneOf m) = l m 1 :=
  hl.pick_at _ _ m 1 (lanes4_add _ 1 (by decide))
/-- Each lane's label's radius. -/
theorem HoldsLabs.labR_at (hl : HoldsLabs l fl) (m : Fin 12) : labR fl (laneOf m) = l m 2 :=
  hl.pick_at _ _ m 2 (lanes4_add _ 2 (by decide))

/-- A lane's cost of a prediction is the gap of its label and the prediction. -/
theorem cost_at (hp : HoldsPreds p fp) (hl : HoldsLabs l fl) (m : Fin 12) (n : Fin 20) :
    cost fp fl n.val (laneOf m) = gap (l m) (p n) := by
  unfold cost costOf halves
  pointwise [hl.labX_at, hl.labY_at, hl.labR_at]
  rw [hp.word_at n 0 _ (4 * n.val + 8) (by simp; omega), hp.word_at n 1 _ (4 * n.val + 9) (by simp; omega),
    hp.word_at n 2 _ (4 * n.val + 10) (by simp; omega)]
  rfl

/-- The running minimum and its index are the state of a scan of the costs. -/
theorem scanned (fp : FVec Ideal S144 .f32) (fl : FVec Ideal S64 .f32) (x : S16.Idx) (n : ℕ) (hn : n ≤ 20) :
    ∃ i : ℕ, i < 20 ∧ leastAt fp fl n x = BitVec.ofNat 32 i
      ∧ Scanned (fun k => cost fp fl k x) n i (least fp fl n x) := by
  induction n with
  | zero =>
    refine ⟨0, by decide, rfl, ?_⟩
    show Scanned _ 0 0 (Named.named (F := Ideal) κ (φ := .f32) "start" 0x7149F2CA#32)
    rw [IdealRules.named_const.ideal_named_scalar _ _ _ ⊤ rfl]
    exact Scanned.start _
  | succ n ih =>
    obtain ⟨i, hi, hw, hs⟩ := ih (by omega)
    by_cases h : cost fp fl n x < least fp fl n x
    · have e : (cmpf .olt (cost fp fl n) (least fp fl n)) x = 1#1 := by
        show BitVec.ofBool (decide (cost fp fl n x < least fp fl n x)) = 1#1
        rw [decide_eq_true h]; rfl
      refine ⟨n, by omega, ?_, ?_⟩
      · show Scalar.select _ _ _ = _
        rw [e]; rfl
      · have : least fp fl (n + 1) x = cost fp fl n x := by
          show Scalar.select _ _ _ = _
          rw [e]; rfl
        rw [this]
        exact hs.take h
    · have e : (cmpf .olt (cost fp fl n) (least fp fl n)) x = 0#1 := by
        show BitVec.ofBool (decide (cost fp fl n x < least fp fl n x)) = 0#1
        rw [decide_eq_false h]; rfl
      refine ⟨i, hi, ?_, ?_⟩
      · show Scalar.select _ _ _ = _
        rw [e]; exact hw
      · have : least fp fl (n + 1) x = least fp fl n x := by
          show Scalar.select _ _ _ = _
          rw [e]; rfl
        rw [this]
        exact hs.keep h

/-- Every label's lane has the index of the first prediction of least gap. -/
theorem pairAt_at (hp : HoldsPreds p fp) (hl : HoldsLabs l fl) (m : Fin 12) :
    ∃ i : Fin 20, pairAt fp fl (laneOf m) = BitVec.ofNat 32 i.val ∧ FirstMin (fun n => gap (l m) (p n)) i := by
  obtain ⟨i, hi, hw, hs⟩ := scanned fp fl (laneOf m) 20 le_rfl
  obtain ⟨_, hm⟩ := hs.firstMin
  refine ⟨⟨i, hi⟩, hw, ?_⟩
  rw [← show (fun n : Fin 20 => cost fp fl n.val (laneOf m)) = fun n => gap (l m) (p n) from funext fun n => cost_at hp hl m n]
  exact hm

/-! ## The sum over the pairs -/

/-- Sixteen values added in order. -/
theorem sum_sixteen (t : Fin 16 → EReal) :
    ∑ k, t k = t 0 + t 1 + t 2 + t 3 + t 4 + t 5 + t 6 + t 7 + t 8 + t 9 + t 10 + t 11 + t 12 + t 13 + t 14 + t 15 := by
  simp [Fin.sum_univ_succ, add_assoc]

/-- The sixteen lanes of the pairs' terms, added in order. -/
theorem pay93_eq (a : IVec S16 1) (b c d e : FVec Ideal S16 .f32) :
    k0_pay93 (F := Ideal) a b c d e
      = ∑ k : Fin 16, Scalar.select (a (ix1 k)) (c (ix1 k) + e (ix1 k) * d (ix1 k) - Ideal.log (b (ix1 k) + tiny)) (0 : EReal) := by
  rw [sum_sixteen]
  unfold k0_pay93
  pointwise
  rfl

/-- The pairs' sum. -/
theorem pairSum_eq (hp : HoldsPreds p fp) (hl : HoldsLabs l fl) (idx : Fin 12 → Fin 20)
    (hi : ∀ m, pairAt fp fl (laneOf m) = BitVec.ofNat 32 (idx m).val) :
    pairSum fp fl = ∑ m, pairTerm (l m) (p (idx m)) := by
  have hw : ∀ m, (pairWord fp fl (laneOf m)).toNat = 8 + 4 * (idx m).val := by
    intro m
    show (4#32 * pairAt fp fl (laneOf m) + 8#32).toNat = _
    rw [hi, BitVec.toNat_add, BitVec.toNat_mul, BitVec.toNat_ofNat, BitVec.toNat_ofNat]
    have := (idx m).isLt
    simp
    omega
  have hc : ∀ m (c : ℕ), c < 4 →
      (addi (pairWord fp fl) (broadcast S16 (BitVec.ofNat 32 c)) (laneOf m)).toNat = 8 + 4 * (idx m).val + c := by
    intro m c hc
    show (pairWord fp fl (laneOf m) + BitVec.ofNat 32 c).toNat = _
    rw [BitVec.toNat_add, hw, BitVec.toNat_ofNat]
    have := (idx m).isLt
    omega
  unfold pairSum
  rw [pay93_eq, sum_twelve]
  · refine Finset.sum_congr rfl fun m _ => ?_
    have hv : valid (ix1 (Fin.castLE (by decide : 12 ≤ 16) m)) = 1#1 := by
      rw [valid_at]; exact if_pos m.isLt
    rw [hv]
    show k0_pay90 _ _ _ _ (laneOf m) + k0_pay92 (F := Ideal) (laneOf m) * k0_pay91 _ _ (laneOf m) - Ideal.log (pick fp _ (laneOf m) + tiny) = _
    unfold k0_pay90 k0_pay91 k0_pay92
    pointwise [hl.labX_at, hl.labY_at, hl.labR_at]
    rw [hp.pick_at (pairWord fp fl) (laneOf m) (idx m) 0 (hw m), hp.pick_at _ (laneOf m) (idx m) 1 (hc m 1 (by decide)),
      hp.pick_at _ (laneOf m) (idx m) 2 (hc m 2 (by decide)), hp.pick_at _ (laneOf m) (idx m) 3 (hc m 3 (by decide))]
    rfl
  · intro k hk
    have hv : valid (ix1 k) = 0#1 := by
      rw [valid_at]; exact if_neg (not_lt.2 hk)
    rw [hv]
    rfl

/-! ## The mask of the paired predictions -/

/-- Ones stored into zeros at an index vector's lanes of labels: one at the indices stored at and zero elsewhere. -/
theorem stored_ones (w : IVec S16 32) (h : ∀ a x, ((![w] : Fin 1 → IVec S16 32) a x).toNat < S32.size a)
    (idx : Fin 12 → Fin 20) (hi : ∀ m, w (laneOf m) = BitVec.ofNat 32 (idx m).val) (y : S32.Idx) :
    storeIdx (F := Ideal) (e := .f32) (broadcast S32 (Scalar.ofBits (F := Ideal) .f32 0x00000000#32)) ![w] (k0_pay96 (F := Ideal)) valid false h y
      = if ∃ m, (idx m).val = (y 0).val then (1 : EReal) else 0 := by
  have key : ∀ y : S32.Idx, storeIdx (F := Ideal) (e := .f32) (broadcast S32 (Scalar.ofBits (F := Ideal) .f32 0x00000000#32)) ![w] (k0_pay96 (F := Ideal)) valid false h y = if ∃ m : Fin 12, m.val < 16 ∧ (idx m).val = (y 0).val then (1 : EReal) else 0 := by
    unfold storeIdx
    refine foldl_finRange_inv 16 _
      (fun N (g : FVec Ideal S32 .f32) => ∀ y : S32.Idx, g y = if ∃ m : Fin 12, m.val < N ∧ (idx m).val = (y 0).val then (1 : EReal) else 0)
      _ (fun y => ?_) (fun k g hg y => ?_)
    · rw [if_neg fun ⟨m, h, _⟩ => absurd h (Nat.not_lt_zero _)]
      exact Consts.bits_zero
    · have hx : (Shape.ofLane k : S16.Idx) = ix1 k := funext fun a => by
        match a with
        | 0 => rfl
      beta_reduce
      simp only [hx]
      rw [valid_at]
      by_cases hk : k.val < 12
      · rw [if_pos hk, if_pos (by decide : (1#1 : BitVec 1) = 1)]
        have hv : (w (ix1 k)).toNat = (idx ⟨k.val, hk⟩).val := by
          have := hi ⟨k.val, hk⟩
          rw [show ix1 k = laneOf ⟨k.val, hk⟩ from rfl, this, BitVec.toNat_ofNat]
          have := (idx ⟨k.val, hk⟩).isLt
          omega
        change (if (∀ a : Fin 1, (y a).val = ((![w] : Fin 1 → IVec S16 32) a (ix1 k)).toNat)
          then k0_pay96 (F := Ideal) (ix1 k) else g y) = _
        have hc : (∀ a : Fin 1, (y a).val = ((![w] : Fin 1 → IVec S16 32) a (ix1 k)).toNat)
            ↔ (idx ⟨k.val, hk⟩).val = (y 0).val := by
          refine ⟨fun h => hv.symm.trans (h 0).symm, fun h a => ?_⟩
          match a with
          | 0 => exact (hv.trans h).symm
        by_cases hy : (idx ⟨k.val, hk⟩).val = (y 0).val
        · rw [if_pos (hc.2 hy)]
          refine Eq.trans Consts.bits_one (if_pos ?_).symm
          exact ⟨⟨k.val, hk⟩, Nat.lt_succ_self _, hy⟩
        · rw [if_neg (fun h => hy (hc.1 h)), hg y]
          refine if_congr ⟨fun ⟨m, h, e⟩ => ⟨m, Nat.lt_succ_of_lt h, e⟩, fun ⟨m, h, e⟩ => ⟨m, ?_, e⟩⟩ rfl rfl
          refine lt_of_le_of_ne (Nat.lt_succ_iff.1 h) fun hm => hy ?_
          have hmk : m = ⟨k.val, hk⟩ := Fin.ext hm
          rw [← hmk, e]
      · rw [if_neg hk, if_neg (by decide : ¬ (0#1 : BitVec 1) = 1), hg y]
        refine if_congr ⟨fun ⟨m, h, e⟩ => ⟨m, Nat.lt_succ_of_lt h, e⟩, fun ⟨m, h, e⟩ => ⟨m, ?_, e⟩⟩ rfl rfl
        have := m.isLt
        omega
  rw [key]
  exact if_congr ⟨fun ⟨m, _, e⟩ => ⟨m, e⟩, fun ⟨m, e⟩ => ⟨m, by have := m.isLt; omega, e⟩⟩ rfl rfl

/-- The mask is one at the paired predictions and zero elsewhere. -/
theorem mask_at (idx : Fin 12 → Fin 20) (hi : ∀ m, pairAt fp fl (laneOf m) = BitVec.ofNat 32 (idx m).val) (y : S32.Idx) :
    mask fp fl y = if ∃ m, (idx m).val = (y 0).val then (1 : EReal) else 0 :=
  stored_ones _ _ idx hi y

/-! ## The predictions of no pair -/

/-- A choice where a mask is zero, the mask being one exactly where `P` holds: the choice where `P` fails. -/
theorem ite_mask (P : Prop) [Decidable P] (a : EReal) :
    (if (if P then (1 : EReal) else 0) = 0 then a else 0) = if P then 0 else a := by
  by_cases h : P
  · rw [if_pos h, if_pos h, if_neg one_ne_zero]
  · rw [if_neg h, if_neg h, if_pos rfl]

/-- The first four lanes. -/
theorem few_at (k : Fin 16) : IntOp.cmpi .slt (lanes (ix1 k)) 4#32 = if k.val < 4 then 1#1 else 0#1 := by
  rw [lanes_at]
  revert k
  decide

/-- A lane's two terms: its own prediction's and, on the first four lanes, that of the prediction sixteen later. -/
theorem pay104_at (idx : Fin 12 → Fin 20) (hp : HoldsPreds p fp)
    (hi : ∀ m, pairAt fp fl (laneOf m) = BitVec.ofNat 32 (idx m).val) (k : Fin 16) :
    k0_pay104 (F := Ideal) lanes (pick fp (k0_pay98 lanes4)) (maskFrom fp fl 0 (by decide)) (maskFrom fp fl 16 le_rfl)
        (k0_pay101 (pick fp (k0_pay97 lanes4)) (pick fp (k0_pay99 lanes4))) (k0_pay102 (pick fp (k0_pay100 lanes4))) k0_pay103 (ix1 k)
      = (if ∃ m, idx m = Fin.castLE (by decide : 16 ≤ 20) k then 0 else spareTerm (p (Fin.castLE (by decide : 16 ≤ 20) k)))
        + (if h : k.val < 4 then (if ∃ m, idx m = ⟨16 + k.val, by omega⟩ then 0 else spareTerm (p ⟨16 + k.val, by omega⟩)) else 0) := by
  have hlow : maskFrom fp fl 0 (by decide) (ix1 k) = if ∃ m, idx m = Fin.castLE (by decide : 16 ≤ 20) k then (1 : EReal) else 0 := by
    refine (mask_at idx hi _).trans (if_congr (exists_congr fun m => ?_) rfl rfl)
    exact ⟨fun e => Fin.ext (e.trans (Nat.zero_add _)), fun e => (congrArg Fin.val e).trans (Nat.zero_add _).symm⟩
  have r0 := hp.pick_at (k0_pay97 lanes4) (ix1 k) (Fin.castLE (by decide : 16 ≤ 20) k) 2 (by
    rw [show k0_pay97 lanes4 = addi lanes4 (broadcast S16 10#32) from rfl, lanes4_add k 10 (by decide)]
    simp; omega)
  have p0 := hp.pick_at (k0_pay99 lanes4) (ix1 k) (Fin.castLE (by decide : 16 ≤ 20) k) 3 (by
    rw [show k0_pay99 lanes4 = addi lanes4 (broadcast S16 11#32) from rfl, lanes4_add k 11 (by decide)]
    simp; omega)
  have hs : k0_pay101 (F := Ideal) (pick fp (k0_pay97 lanes4)) (pick fp (k0_pay99 lanes4)) (ix1 k) = spareTerm (p (Fin.castLE (by decide : 16 ≤ 20) k)) := by
    unfold k0_pay101
    pointwise
    rw [r0, p0]
    rfl
  unfold k0_pay104 k0_pay102 k0_pay103
  pointwise
  rw [hlow, hs, ite_mask, few_at]
  congr 1
  by_cases hk : k.val < 4
  · rw [if_pos hk, dif_pos hk]
    have hhigh : maskFrom fp fl 16 le_rfl (ix1 k) = if ∃ m, idx m = ⟨16 + k.val, by omega⟩ then (1 : EReal) else 0 := by
      refine (mask_at idx hi _).trans (if_congr (exists_congr fun m => ?_) rfl rfl)
      exact ⟨fun e => Fin.ext e, fun e => congrArg Fin.val e⟩
    have r1 := hp.pick_at (k0_pay98 lanes4) (ix1 k) ⟨16 + k.val, by omega⟩ 2 (by
      rw [show k0_pay98 lanes4 = addi lanes4 (broadcast S16 74#32) from rfl, lanes4_add k 74 (by decide)]
      simp; omega)
    have p1 := hp.pick_at (k0_pay100 lanes4) (ix1 k) ⟨16 + k.val, by omega⟩ 3 (by
      rw [show k0_pay100 lanes4 = addi lanes4 (broadcast S16 75#32) from rfl, lanes4_add k 75 (by decide)]
      simp; omega)
    rw [hhigh, r1, p1]
    by_cases h : ∃ m, idx m = ⟨16 + k.val, by omega⟩
    · rw [if_pos h, if_pos h, decide_eq_false one_ne_zero]
      rfl
    · rw [if_neg h, if_neg h, decide_eq_true rfl]
      rfl
  · rw [if_neg hk, dif_neg hk]
    cases decide (maskFrom fp fl 16 le_rfl (ix1 k) = 0) <;> rfl

/-- The vector the kernel stores is the loss on every lane. -/
theorem outVec_eq (hp : HoldsPreds p fp) (hl : HoldsLabs l fl) :
    ∃ idx : Fin 12 → Fin 20, Paired p l idx ∧ ∀ x, outVec fp fl x = loss p l idx := by
  choose idx hi hm using fun m => pairAt_at hp hl m
  refine ⟨idx, hm, fun x => ?_⟩
  have hsum : ∑ k : Fin 16, k0_pay104 (F := Ideal) lanes (pick fp (k0_pay98 lanes4)) (maskFrom fp fl 0 (by decide)) (maskFrom fp fl 16 le_rfl)
        (k0_pay101 (pick fp (k0_pay97 lanes4)) (pick fp (k0_pay99 lanes4))) (k0_pay102 (pick fp (k0_pay100 lanes4))) k0_pay103 (ix1 k)
      = ∑ n, if ∃ m, idx m = n then (0 : EReal) else spareTerm (p n) :=
    (Finset.sum_congr rfl fun k _ => pay104_at idx hp hi k).trans
      (sum_twenty (fun n => if ∃ m, idx m = n then (0 : EReal) else spareTerm (p n)) _ _ (fun k => rfl) (fun k => rfl))
  rw [sum_sixteen] at hsum
  unfold outVec k0_pay1 k0_pay106 k0_pay107
  have h1 : k0_pay105 (F := Ideal) (pairSum fp fl) = (∑ m, pairTerm (l m) (p (idx m))) * ((1/12 : ℝ) : EReal) := by
    rw [pairSum_eq hp hl idx hi, one_div]
    unfold k0_pay105
    rw [IdealRules.named_const.ideal_named_scalar _ _ _ ((12⁻¹ : ℝ) : EReal) rfl]
    rfl
  rw [h1]
  pointwise
  rw [hsum, Consts.bits_eighth]
  unfold loss
  congr!

end Cert.Proof.Kern

end
-- ==== Proof.RefValue.lean ====
/-
  What the reference computes, over the extended reals: the gaps of every label and prediction, the first prediction of
  least gap for every label, the predictions taken there, the mask of the taken ones, and the loss.
-/
module

public import proofs.«01_k».proof.Proof.RefRun
public import proofs.«01_k».proof.Proof.Consts
public import proofs.«01_k».proof.Proof.Spec
public import Idealize.ShloMosaic.Lib.Pointwise
public import Idealize.ShloMosaic.Lib.Routing.OpsSet
public import Idealize.ShloMosaic.Lib.Routing.OpsPair

@[expose] public section

noncomputable section

namespace Cert.Proof.Ref

open Cert.ReferenceIdeal Cert.ReferenceIdeal.Gen
open Idealize.ShloMosaic

/-- The gap of every label and prediction. -/
theorem costs_at (a0 : FVec Ideal S20x4 .f32) (a1 : FVec Ideal S12x4 .f32) (m : Fin 12) (n : Fin 20) :
    costs a0 a1 (ix2 m n) = gap (fun k => a1 (ix2 m k)) (fun k => a0 (ix2 n k)) := by
  unfold costs gap half
  pointwise
  rfl

/-- The pairs' loss, summed. -/
theorem pairLoss_at (a1 v : FVec Ideal S12x4 .f32) (j : S_.Idx) :
    pairLoss a1 v j = ∑ m : Fin 12, pairTerm (fun k => a1 (ix2 m k)) (fun k => v (ix2 m k)) := by
  unfold pairLoss
  pointwise
  refine Finset.sum_congr rfl fun m _ => ?_
  rw [Consts.bits_negOne]
  unfold pairTerm gap half tiny
  rw [zero_mul, sub_zero, neg_one_mul, sub_eq_add_neg]
  rfl

/-- The loss, of the pairs' sum and the mask. -/
theorem total_at (a0 : FVec Ideal S20x4 .f32) (x : FVec Ideal S_ .f32) (v : FVec Ideal S20 .f32) (j : S_.Idx) :
    total a0 x v j = x j * ((1 / 12 : ℝ) : EReal)
      + (∑ n : Fin 20, if v (ix1 n) = 0 then spareTerm (fun k => a0 (ix2 n k)) else 0) * ((1 / 8 : ℝ) : EReal) := by
  unfold total
  pointwise
  rw [Consts.bits_twelve, Consts.bits_eight, Ideal.div_coe (by norm_num), Ideal.div_coe (by norm_num)]
  refine congrArg₂ (· + ·) rfl (congrArg (· * _) (Finset.sum_congr rfl fun n _ => ?_))
  by_cases h : v (ix1 n) = 0
  · rw [if_pos h, h, Consts.bits_negZero]
    rw [if_pos rfl, zero_mul]
    rfl
  · rw [if_neg h]
    exact (if_neg h).symm

/-- The signed comparison of two small numbers written as words. -/
theorem slt_small (i n : ℕ) (hi : i < 20) (hn : n < 20) :
    IntOp.cmpi .slt (BitVec.ofNat 32 i) (BitVec.ofNat 32 n) = BitVec.ofBool (decide (i < n)) := by
  show BitVec.ofBool ((BitVec.ofNat 32 i).slt (BitVec.ofNat 32 n)) = _
  rw [BitVec.slt_eq_decide, StableHlo.Predicate.toInt_ofNat_small _ (by omega), StableHlo.Predicate.toInt_ofNat_small _ (by omega)]
  simp

/-- The same of "at most". -/
theorem sle_small (i n : ℕ) (hi : i < 20) (hn : n < 20) :
    IntOp.cmpi .sle (BitVec.ofNat 32 i) (BitVec.ofNat 32 n) = BitVec.ofBool (decide (i ≤ n)) := by
  show BitVec.ofBool ((BitVec.ofNat 32 i).sle (BitVec.ofNat 32 n)) = _
  rw [BitVec.sle_eq_decide, StableHlo.Predicate.toInt_ofNat_small _ (by omega), StableHlo.Predicate.toInt_ofNat_small _ (by omega)]
  simp

/-- A step of the search that meets a smaller value takes it. -/
theorem argmin_take (v x : EReal) (w w' : BitVec 32) (h : x < v) :
    reducer_argmin_f32_i32 (F := Ideal) (v, w) (x, w') = (x, w') := by
  unfold reducer_argmin_f32_i32
  simp [Ideal.cmpf_def, Ideal.cmp, Scalar.select, IntOp.ori, IntOp.andi, not_lt.2 h.le, h.ne']

/-- A step that meets no smaller value keeps what it has, the index kept being no later than the one met. -/
theorem argmin_keep (v x : EReal) (i n : ℕ) (h : ¬ x < v) (hi : i ≤ n) (hn : n < 20) :
    reducer_argmin_f32_i32 (F := Ideal) (v, BitVec.ofNat 32 i) (x, BitVec.ofNat 32 n) = (v, BitVec.ofNat 32 i) := by
  unfold reducer_argmin_f32_i32
  rcases lt_or_eq_of_le (not_lt.1 h) with h' | rfl
  · simp [Ideal.cmpf_def, Ideal.cmp, Scalar.select, IntOp.ori, IntOp.andi, h', h'.ne]
  · rcases lt_or_eq_of_le hi with hi' | rfl
    · simp [Ideal.cmpf_def, Ideal.cmp, Scalar.select, IntOp.ori, IntOp.andi, slt_small _ _ (hi'.trans hn) hn, hi']
    · simp [Ideal.cmpf_def, Ideal.cmp, Scalar.select, IntOp.ori, IntOp.andi]

/-- The state of the search of row `m` after the first `N` entries of the whole table in row-major order: the scan of as
    many entries of the row as have been passed. -/
def SearchInv (v : FVec Ideal S12x20 .f32) (m : Fin 12) (N : ℕ) (s : EReal × BitVec 32) : Prop :=
  ∃ i : ℕ, i < 20 ∧ s.2 = BitVec.ofNat 32 i
    ∧ Scanned (fun n => if h : n < 20 then v (ix2 m ⟨n, h⟩) else ⊤) (min (N - 20 * m.val) 20) i s.1

/-- A step of the search keeps its invariant. -/
theorem SearchInv.step (v : FVec Ideal S12x20 .f32) (m : Fin 12) (a : Fin 12) (b : Fin 20) (s : EReal × BitVec 32)
    (h : SearchInv v m (a.val * 20 + b.val) s) :
    SearchInv v m (a.val * 20 + b.val + 1)
      (if a = m then reducer_argmin_f32_i32 (F := Ideal) s (v (ix2 a b), BitVec.ofNat 32 b.val) else s) := by
  obtain ⟨i, hi, hw, hs⟩ := h
  have hb := b.isLt
  split
  · next e =>
    subst e
    rw [show min (a.val * 20 + b.val - 20 * a.val) 20 = b.val by omega] at hs
    unfold SearchInv
    rw [show min (a.val * 20 + b.val + 1 - 20 * a.val) 20 = b.val + 1 by omega]
    have hc : (fun n => if h : n < 20 then v (ix2 a ⟨n, h⟩) else ⊤) b.val = v (ix2 a b) := dif_pos hb
    obtain ⟨x, w⟩ := s
    simp only at hw hs ⊢
    subst hw
    by_cases hv : v (ix2 a b) < x
    · refine ⟨b.val, hb, ?_, ?_⟩
      · rw [argmin_take _ _ _ _ hv]
      · rw [argmin_take _ _ _ _ hv]
        rw [← hc] at hv ⊢
        exact hs.take hv
    · have hib : i ≤ b.val := by
        rcases hs.2 with ⟨h0, _⟩ | ⟨h1, _⟩
        · omega
        · omega
      refine ⟨i, hi, ?_, ?_⟩
      · rw [argmin_keep _ _ _ _ hv hib hb]
      · rw [argmin_keep _ _ _ _ hv hib hb]
        rw [← hc] at hv
        exact hs.keep hv
  · next e =>
    refine ⟨i, hi, hw, ?_⟩
    have e' : a.val ≠ m.val := fun h => e (Fin.ext h)
    rw [show min (a.val * 20 + b.val + 1 - 20 * m.val) 20 = min (a.val * 20 + b.val - 20 * m.val) 20 by omega]
    exact hs

/-- The index of a row's first least value. -/
theorem firstMin_at (v : FVec Ideal S12x20 .f32) (m : Fin 12) :
    ∃ i : Fin 20, firstMin v (ix1 m) = BitVec.ofNat 32 i.val ∧ FirstMin (fun n : Fin 20 => v (ix2 m n)) i := by
  unfold firstMin
  simp only []
  rw [Ideal.argReduce_eq_reduce2]
  unfold Host.reduce2
  rw [List.foldl_filter]
  have hN : S12x20.numel = 240 := by decide
  have key := foldl_finRange_inv S12x20.numel
    (fun (x : EReal × BitVec 32) y =>
      if decide (reducesTo_S12x20_S12_d1.drop (S12x20.rowMajor.symm y) = ix1 m) = true then
        reducer_argmin_f32_i32 (F := Ideal) x (v (S12x20.rowMajor.symm y), iotaInDim S12x20 32 1 (S12x20.rowMajor.symm y))
      else x) (SearchInv v m)
    (constant (F := Ideal) S_ FTy.f32 (2139095040#32) (Shape.Idx.first h_S_), constantI S_ 32 (0#32) (Shape.Idx.first h_S_))
    ⟨0, by decide, rfl, by
      show Scanned _ (min (0 - _) 20) 0 (Ideal.ofBits .f32 0x7F800000#32)
      rw [Nat.zero_sub, Nat.zero_min, Consts.bits_top]
      exact Scanned.start _⟩
    (fun n s h => by
      have hn : n.val = ((S12x20.rowMajor.symm n) 0).val * 20 + ((S12x20.rowMajor.symm n) 1).val := by
        rw [← rowMajor_val2 (S12x20.rowMajor.symm n) 20 rfl, Equiv.apply_symm_apply]
      generalize S12x20.rowMajor.symm n = y at hn ⊢
      obtain ⟨a, b, rfl⟩ : ∃ (a : Fin 12) (b : Fin 20), y = ix2 a b := ⟨y 0, y 1, eq_ix2 y⟩
      rw [hn] at h ⊢
      have := SearchInv.step v m a b s h
      have hd : reducesTo_S12x20_S12_d1.drop (ix2 a b) = ix1 m ↔ a = m := by
        rw [Shape.ReducesTo.fiber_r2_a1]
        constructor
        · rintro ⟨k, hk⟩
          exact ((ix2_inj _ _ _ _).1 hk).1.symm
        · rintro rfl
          exact ⟨b, rfl⟩
      rw [if_congr (decide_eq_true_iff.trans hd) rfl rfl]
      exact this)
  obtain ⟨i, hi, hw, hs⟩ := key
  refine ⟨⟨i, hi⟩, hw, ?_⟩
  rw [show min (S12x20.numel - 20 * m.val) 20 = 19 + 1 by have := m.isLt; omega] at hs
  obtain ⟨_, hm⟩ := hs.firstMin
  have e : (fun k : Fin 20 => (fun n => if h : n < 20 then v (ix2 m ⟨n, h⟩) else ⊤) k.val) = fun n : Fin 20 => v (ix2 m n) :=
    funext fun k => dif_pos k.isLt
  rw [← e]
  exact hm

/-- The wrapping of negative indices leaves an index in range as it is. -/
theorem wrapped_at (w : IVec S12 32) (m : Fin 12) (i : Fin 20) (h : w (ix1 m) = BitVec.ofNat 32 i.val) :
    broadcastInDim S12x1 ![0] bcast_S12_S12x1_0
      (select (cmpi CmpIPredicate.slt w (broadcastInDim S12 ![] bcast_S_S12 (constantI S_ 32 0#32)))
        (addi w (broadcastInDim S12 ![] bcast_S_S12 (constantI S_ 32 20#32))) w) (ix2 m 0) = BitVec.ofNat 32 i.val := by
  have h0 : IntOp.cmpi .slt (BitVec.ofNat 32 i.val) 0#32 = 0#1 := by
    rw [slt_small i.val 0 i.isLt (by decide)]; simp
  pointwise [h, h0]

/-- The predictions taken at an index in range. -/
theorem taken_at (a0 : FVec Ideal S20x4 .f32) (w : IVec S12 32) (m : Fin 12) (k : Fin 4) (i : Fin 20)
    (h : w (ix1 m) = BitVec.ofNat 32 i.val) : taken a0 w (ix2 m k) = a0 (ix2 i k) := by
  have hu := wrapped_at w m i h
  have hi := i.isLt
  unfold taken
  simp only []
  generalize broadcastInDim S12x1 ![0] bcast_S12_S12x1_0
      (select (cmpi CmpIPredicate.slt w (broadcastInDim S12 ![] bcast_S_S12 (constantI S_ 32 0#32)))
        (addi w (broadcastInDim S12 ![] bcast_S_S12 (constantI S_ 32 20#32))) w) = u at hu ⊢
  have hg : Host.gather gather_S20x4_S12x1_S12x4_1_0_n_n_0_1_14 a0 u (ix2 m k) = a0 (ix2 i k) := by
    rw [ix2_eq_valueIdx] at hu ⊢
    rw [Routing.gather_row gather_S20x4_S12x1_S12x4_1_0_n_n_0_1_14 rfl rfl rfl rfl rfl a0 u m k i hu (by decide), ix2_eq_valueIdx]
  have hs : IntOp.cmpi .sge (BitVec.ofNat 32 i.val) 0#32 = 1#1 := by
    show IntOp.cmpi .sle (BitVec.ofNat 32 0) (BitVec.ofNat 32 i.val) = _
    rw [sle_small 0 i.val (by decide) hi, decide_eq_true (Nat.zero_le _)]
    rfl
  have hl : IntOp.cmpi .sle (BitVec.ofNat 32 i.val) 19#32 = 1#1 := by
    rw [sle_small i.val 19 hi (by decide), decide_eq_true (Nat.lt_succ_iff.1 hi)]
    rfl
  pointwise [hg]
  rw [show (Finset.univ : Finset (Fin 1)) = {0} from rfl, Finset.fold_singleton, hu, hs, hl]
  rfl

/-- The mask of the taken predictions. -/
theorem pairMask_at (w : IVec S12 32) (idx : Fin 12 → Fin 20) (h : ∀ m, w (ix1 m) = BitVec.ofNat 32 (idx m).val)
    (n : Fin 20) : pairMask (F := Ideal) w (ix1 n) = if ∃ m, idx m = n then 1 else 0 := by
  unfold pairMask
  simp only []
  have lands : ∀ (m : Fin 12) (u : IVec S12x1 32), u (ix2 m 0) = BitVec.ofNat 32 (idx m).val →
      (scatter_S20_S12x1_S12_n_0_0_1.resultIdx? (ix1 m) u = some (ix1 n) ↔ idx m = n) := by
    intro m u hu
    rw [Routing.resultIdx?_eq_some]
    have hw : scatter_S20_S12x1_S12_n_0_0_1.window (ix1 m) 0 = 0 := rfl
    have hx : scatter_S20_S12x1_S12_n_0_0_1.start (ix1 m) u 0 = (u (ix2 m 0)).toInt := by
      unfold ScatterDims.start
      rw [dif_pos (show (0 : Fin 1) ∈ scatter_S20_S12x1_S12_n_0_0_1.scatterDimsToOperandDims from List.mem_singleton.2 rfl)]
      refine congrArg (fun y => (u y).toInt) (funext fun b => Fin.ext ?_)
      match b with
      | ⟨0, _⟩ => rfl
      | ⟨1, _⟩ => rfl
    have hm := (idx m).isLt
    constructor
    · intro h
      have h := h 0
      rw [hw, hx, hu, StableHlo.Predicate.toInt_ofNat_small _ (by omega)] at h
      exact Fin.ext (by have : ((ix1 n) 0).val = n.val := rfl
                        omega)
    · rintro rfl a
      obtain rfl : a = 0 := Subsingleton.elim _ _
      rw [hw, hx, hu, StableHlo.Predicate.toInt_ofNat_small _ (by omega)]
      rfl
  have hu := fun m => wrapped_at w m (idx m) (h m)
  generalize broadcastInDim S12x1 ![0] bcast_S12_S12x1_0
      (select (cmpi CmpIPredicate.slt w (broadcastInDim S12 ![] bcast_S_S12 (constantI S_ 32 0#32)))
        (addi w (broadcastInDim S12 ![] bcast_S_S12 (constantI S_ 32 20#32))) w) = u at hu ⊢
  split
  · next e =>
    obtain ⟨m, hm⟩ := e
    refine Routing.scatter_set_hit _ _ _ _ _ (1 : EReal) (fun k _ => ?_) (ix1 m) ((lands m u (hu m)).2 hm)
    exact Consts.bits_one
  · next e =>
    rw [Routing.scatter_set_miss]
    · exact Consts.bits_zero
    · intro k hk
      obtain ⟨m, rfl⟩ : ∃ m : Fin 12, k = ix1 m := ⟨k 0, eq_ix1 k⟩
      exact e ⟨m, (lands m u (hu m)).1 hk⟩

/-- The reference's result is the loss of the pairing of the labels with the first predictions of least gap. -/
theorem result_eq (a0 : FVec Ideal S20x4 .f32) (a1 : FVec Ideal S12x4 .f32) :
    ∃ idx : Fin 12 → Fin 20, Paired (fun n k => a0 (ix2 n k)) (fun m k => a1 (ix2 m k)) idx
      ∧ result a0 a1 = fun _ => loss (fun n k => a0 (ix2 n k)) (fun m k => a1 (ix2 m k)) idx := by
  choose idx hw hm using fun m => firstMin_at (costs a0 a1) m
  refine ⟨idx, fun m => ?_, funext fun j => ?_⟩
  · have h := hm m
    rw [show (fun n : Fin 20 => costs a0 a1 (ix2 m n)) = fun n => gap (fun k => a1 (ix2 m k)) (fun k => a0 (ix2 n k)) from
      funext fun n => costs_at a0 a1 m n] at h
    exact h
  · have hA : (∑ m : Fin 12, pairTerm (fun k => a1 (ix2 m k)) (fun k => taken a0 (firstMin (costs a0 a1)) (ix2 m k)))
        = ∑ m : Fin 12, pairTerm (fun k => a1 (ix2 m k)) (fun k => a0 (ix2 (idx m) k)) :=
      Finset.sum_congr rfl fun m _ => congrArg (pairTerm _) (funext fun k => taken_at a0 _ m k (idx m) (hw m))
    have hB : (∑ n : Fin 20, if pairMask (F := Ideal) (firstMin (costs a0 a1)) (ix1 n) = 0 then spareTerm (fun k => a0 (ix2 n k)) else 0)
        = ∑ n : Fin 20, if ∃ m, idx m = n then 0 else spareTerm (fun k => a0 (ix2 n k)) := by
      refine Finset.sum_congr rfl fun n _ => ?_
      rw [pairMask_at _ idx hw n]
      by_cases h : ∃ m, idx m = n
      · rw [if_pos h, if_pos h, if_neg one_ne_zero]
      · rw [if_neg h, if_neg h, if_pos rfl]
    unfold result pairedIdx loss
    rw [total_at, pairLoss_at, hA, hB]
    congr!

end Cert.Proof.Ref

end
-- ==== Proof.Algebraic.lean ====
/-
  The value claim: over the extended reals the idealized kernel and the idealized reference end with one loss.
-/
module

public import proofs.«01_k».proof.Proof.Launch
public import proofs.«01_k».proof.Proof.KernelValue
public import proofs.«01_k».proof.Proof.RefValue

@[expose] public section

noncomputable section

namespace Cert.Proof

open Idealize.ShloMosaic Idealize.SL.Sem

namespace Kern

open Cert.KernelIdeal Cert.KernelIdeal.Gen

variable (m : (ℓ : Loc nD τ sig) → Buf (Elt Ideal) ℓ) (d : Dev nD)

/-- The launch's predictions and labels. -/
def predsOf : FVec Ideal S20x4 .f32 := m ((SparseCore.T d).loc main_arg0)
def labelsOf : FVec Ideal S12x4 .f32 := m ((SparseCore.T d).loc main_arg1)

/-- The predictions' scratch holds the launch's predictions. -/
theorem holdsPreds (fs : FVec Ideal S144 .f32) : HoldsPreds (fun n k => predsOf m d (ix2 n k)) (predScratch fs (pAt m d)) := by
  intro n k y hy
  have hlt : 4 * n.val + k.val < 80 := by omega
  refine (predScratch_at fs (pAt m d) (ix1 ⟨4 * n.val + k.val, hlt⟩) y fun a => ?_).trans ?_
  · match a with
    | 0 => exact hy.trans (Nat.add_assoc _ _ _)
  · show shapeCast S80 (predsOf m d) shapeCasts_S20x4_S80 _ = _
    refine congrArg (predsOf m d) (Shape.reshapeEquiv_eq_of_rowMajor _ ?_)
    rw [Shape.rowMajor_val_two, Shape.rowMajor_val_one]
    show n.val * 4 + k.val = 4 * n.val + k.val
    omega

/-- The labels' scratch holds the launch's labels. -/
theorem holdsLabs (ls : FVec Ideal S64 .f32) : HoldsLabs (fun n k => labelsOf m d (ix2 n k)) (labScratch ls (lAt m d)) := by
  intro n k y hy
  have hlt : 4 * n.val + k.val < 48 := by omega
  refine (labScratch_at ls (lAt m d) (ix1 ⟨4 * n.val + k.val, hlt⟩) y fun a => ?_).trans ?_
  · match a with
    | 0 => exact hy
  · show shapeCast S48 (labelsOf m d) shapeCasts_S12x4_S48 _ = _
    refine congrArg (labelsOf m d) (Shape.reshapeEquiv_eq_of_rowMajor _ ?_)
    rw [Shape.rowMajor_val_two, Shape.rowMajor_val_one]
    show n.val * 4 + k.val = 4 * n.val + k.val
    omega

/-- What the kernel leaves is the reference's result of the same arguments: both are the loss at the first predictions
    of least gap. -/
theorem scalar_eq (fs : FVec Ideal S144 .f32) (ls : FVec Ideal S64 .f32) :
    scalarOf (outVec (predScratch fs (pAt m d)) (labScratch ls (lAt m d))) = Ref.result (F := Ideal) (predsOf m d) (labelsOf m d) := by
  obtain ⟨i, hi, ho⟩ := outVec_eq (holdsPreds m d fs) (holdsLabs m d ls)
  obtain ⟨j, hj, hr⟩ := Ref.result_eq (predsOf m d) (labelsOf m d)
  rw [hr, ← Paired.unique hi hj]
  funext x
  unfold scalarOf shapeCast extractStridedSlice
  exact ho _

end Kern

set_option maxHeartbeats 4000000 in
/-- From memories with the same arguments, the idealized kernel and the idealized reference end with the same result and
    with their arguments as they were. -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c => Ref.result (F := Ideal) (Kern.predsOf m c) (Kern.labelsOf m c),
    (θ_run (Cert.KernelIdeal.defs (F := Ideal)) (Cert.KernelIdeal.threads (F := Ideal)) _).mono
      (fun r h c => by
        obtain ⟨h0, h1, fs, ls, hv⟩ := h.1 c
        exact ⟨hv.trans (Kern.scalar_eq m c fs ls), h0, h1⟩)
      (Kern.run_main (F := Ideal) m g),
    (θ_run Cert.ReferenceIdeal.defs _ _).mono
      (fun r h c => ⟨(h c).1.trans (congrArg₂ (Ref.result (F := Ideal)) (hargs c).1 (hargs c).2), (h c).2.1, (h c).2.2⟩)
      (Ref.run_main (F := Ideal) m' g')⟩

end Cert.Proof

end
-- ==== Proof.lean ====
/-
  The certificate's claims, put together.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import Idealize.ShloMosaic.Adequacy
public import Idealize.ShloMosaic.Init
public import proofs.«01_k».proof.Proof.Frames
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, frame_p, frame_pi, frame_ri, preserves, algebraic⟩

end Cert.Proof

end
